-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_scales [hPre_usable_scales : Cert.Pre_usable_scales.Facts] (m : (ℓ : Loc Cert.KernelIdeal.nD Cert.KernelIdeal.τ Cert.KernelIdeal.sig) → Buf (Elt Ideal) ℓ) : Prop :=
  ∀ c : Dev Cert.KernelIdeal.nD,
    (Cert.Pre_usable_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_usable_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_scales [hPre_usable_scales : Cert.Pre_usable_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_usable_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_usable_scales [hKernelIdeal : Cert.KernelIdeal.Facts] [hPre_usable_scales : Cert.Pre_usable_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_usable_scales [hReferenceIdeal : Cert.ReferenceIdeal.Facts] [hPre_usable_scales : Cert.Pre_usable_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_usable_scales [hKernelIdeal : Cert.KernelIdeal.Facts] [hReferenceIdeal : Cert.ReferenceIdeal.Facts] [hPre_usable_scales : Cert.Pre_usable_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v15_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v6_2) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_usable_scales : Cert.Pre_usable_scales.Facts),
    quiescent_Kernel (hKernel := hKernel)
    ∧ quiescent_KernelIdeal (hKernelIdeal := hKernelIdeal)
    ∧ quiescent_KernelIdeal_pre_usable_scales (hKernelIdeal := hKernelIdeal) (hPre_usable_scales := hPre_usable_scales)
    ∧ quiescent_ReferenceIdeal (hReferenceIdeal := hReferenceIdeal)
    ∧ quiescent_ReferenceIdeal_pre_usable_scales (hReferenceIdeal := hReferenceIdeal) (hPre_usable_scales := hPre_usable_scales)
    ∧ preserves_Kernel_KernelIdeal
    ∧ algebraic_KernelIdeal_ReferenceIdeal_pre_usable_scales (hKernelIdeal := hKernelIdeal) (hReferenceIdeal := hReferenceIdeal) (hPre_usable_scales := hPre_usable_scales)
-- ==== Pre_usable_scales.lean ====
abbrev S8x1x16384 : Shape := ⟨3, ![8, 1, 16384]⟩
abbrev S8x1x32x128 : Shape := ⟨4, ![8, 1, 32, 128]⟩
abbrev S8x4096x32x128 : Shape := ⟨4, ![8, 4096, 32, 128]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S8x1x16384 .bf16) (main_arg1 : FVec F S8x1x32x128 .bf16) (main_arg2 : FVec F S8x1x32x128 .bf16) (main_arg3 : FVec F S8x4096x32x128 .fp8e4m3) (main_arg4 : FVec F S32 .f32) (main_arg5 : FVec F S8x4096x32x128 .fp8e4m3) (main_arg6 : FVec F S32 .f32) : IVec S32 1 × IVec S32 1 :=
  let main_cst : FVec F S_ .f32 := constant S_ .f32 0x00000000#32
  let main_v0 : FVec F S32 .f32 := broadcastInDim S32 ![] bcast_S_S32 main_cst
  let main_v1 : IVec S32 1 := cmpf .oge main_arg4 main_v0
  let main_cst_0 : FVec F S_ .f32 := constant S_ .f32 0x7F800000#32
  let main_v2 : FVec F S32 .f32 := broadcastInDim S32 ![] bcast_S_S32 main_cst_0
  let main_v3 : IVec S32 1 := cmpf .olt main_arg4 main_v2
  let main_v4 : IVec S32 1 := andi main_v1 main_v3
  let main_cst_1 : FVec F S_ .f32 := constant S_ .f32 0x00000000#32
  let main_v5 : FVec F S32 .f32 := broadcastInDim S32 ![] bcast_S_S32 main_cst_1
  let main_v6 : IVec S32 1 := cmpf .oge main_arg6 main_v5
  let main_cst_2 : FVec F S_ .f32 := constant S_ .f32 0x7F800000#32
  let main_v7 : FVec F S32 .f32 := broadcastInDim S32 ![] bcast_S_S32 main_cst_2
  let main_v8 : IVec S32 1 := cmpf .olt main_arg6 main_v7
  let main_v9 : IVec S32 1 := andi main_v6 main_v8
  (main_v4, main_v9)
-- ==== Kernel.lean ====
abbrev S8x1x16384 : Shape := ⟨3, ![8, 1, 16384]⟩
abbrev S8x1x32x128 : Shape := ⟨4, ![8, 1, 32, 128]⟩
abbrev S8x4096x32x128 : Shape := ⟨4, ![8, 4096, 32, 128]⟩
abbrev S32 : Shape := ⟨1, ![32]⟩
abbrev S8x128x128 : Shape := ⟨3, ![8, 128, 128]⟩
abbrev S8x32x128 : Shape := ⟨3, ![8, 32, 128]⟩
abbrev S32x1 : Shape := ⟨2, ![32, 1]⟩
abbrev S32x128 : Shape := ⟨2, ![32, 128]⟩
abbrev S32x4 : Shape := ⟨2, ![32, 4]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x32x128 : Shape := ⟨3, ![1, 32, 128]⟩
abbrev S1x1024x32x128 : Shape := ⟨4, ![1, 1024, 32, 128]⟩
abbrev S8x32x256 : Shape := ⟨3, ![8, 32, 256]⟩
abbrev S8x16x128 : Shape := ⟨3, ![8, 16, 128]⟩
abbrev S16x128 : Shape := ⟨2, ![16, 128]⟩
abbrev S1x32x256 : Shape := ⟨3, ![1, 32, 256]⟩
abbrev S32x256 : Shape := ⟨2, ![32, 256]⟩
abbrev S1x1024x4x128 : Shape := ⟨4, ![1, 1024, 4, 128]⟩
abbrev S1024x4x128 : Shape := ⟨3, ![1024, 4, 128]⟩
abbrev S4096x128 : Shape := ⟨2, ![4096, 128]⟩
abbrev S2048x128 : Shape := ⟨2, ![2048, 128]⟩
abbrev S2048x256 : Shape := ⟨2, ![2048, 256]⟩
abbrev S32x2048 : Shape := ⟨2, ![32, 2048]⟩
abbrev S128x32 : Shape := ⟨2, ![128, 32]⟩

abbrev nBuf : Space → Nat
  | .hbm => 25
  | .vmem => 24
  | .smem => 0
  | _ => 0

abbrev bufTy : (tb : Table) → Fin (tcTables nBuf tb) → BufTy
  | .hbm, ⟨0, _⟩ => ⟨S8x1x16384, .bf16⟩
  | .hbm, ⟨1, _⟩ => ⟨S8x1x32x128, .bf16⟩
  | .hbm, ⟨2, _⟩ => ⟨S8x1x32x128, .bf16⟩
  | .hbm, ⟨3, _⟩ => ⟨S8x4096x32x128, .fp8e4m3⟩
  | .hbm, ⟨4, _⟩ => ⟨S32, .f32⟩
  | .hbm, ⟨5, _⟩ => ⟨S8x4096x32x128, .fp8e4m3⟩
  | .hbm, ⟨6, _⟩ => ⟨S32, .f32⟩
  | .hbm, ⟨7, _⟩ => ⟨S8x128x128, .bf16⟩
  | .hbm, ⟨8, _⟩ => ⟨S8x32x128, .bf16⟩
  | .hbm, ⟨9, _⟩ => ⟨S8x32x128, .bf16⟩
  | .hbm, ⟨10, _⟩ => ⟨S32x1, .f32⟩
  | .hbm, ⟨11, _⟩ => ⟨S32x128, .f32⟩
  | .hbm, ⟨12, _⟩ => ⟨S32x1, .f32⟩
  | .hbm, ⟨13, _⟩ => ⟨S32x128, .f32⟩
  | .hbm, ⟨14, _⟩ => ⟨S32x4, .f32⟩
  | .hbm, ⟨15, _⟩ => ⟨S128, .f32⟩
  | .hbm, ⟨16, _⟩ => ⟨S128x1, .f32⟩
  | .hbm, ⟨17, _⟩ => ⟨S128x128, .f32⟩
  | .hbm, ⟨18, _⟩ => ⟨S32x4, .f32⟩
  | .hbm, ⟨19, _⟩ => ⟨S128, .f32⟩
  | .hbm, ⟨20, _⟩ => ⟨S128x1, .f32⟩
  | .hbm, ⟨21, _⟩ => ⟨S128x128, .f32⟩
  | .hbm, ⟨22, _⟩ => ⟨S8x128x128, .bf16⟩
  | .hbm, ⟨23, _⟩ => ⟨S8x32x128, .fp8e4m3⟩
  | .hbm, ⟨24, _⟩ => ⟨S8x32x128, .fp8e4m3⟩
  | .local _ .vmem, ⟨0, _⟩ => ⟨S1x128x128, .bf16⟩
  | .local _ .vmem, ⟨1, _⟩ => ⟨S1x128x128, .bf16⟩
  | .local _ .vmem, ⟨2, _⟩ => ⟨S1x32x128, .bf16⟩
  | .local _ .vmem, ⟨3, _⟩ => ⟨S1x32x128, .bf16⟩
  | .local _ .vmem, ⟨4, _⟩ => ⟨S1x32x128, .bf16⟩
  | .local _ .vmem, ⟨5, _⟩ => ⟨S1x32x128, .bf16⟩
  | .local _ .vmem, ⟨6, _⟩ => ⟨S1x1024x32x128, .fp8e4m3⟩
  | .local _ .vmem, ⟨7, _⟩ => ⟨S1x1024x32x128, .fp8e4m3⟩
  | .local _ .vmem, ⟨8, _⟩ => ⟨S1x1024x32x128, .fp8e4m3⟩
  | .local _ .vmem, ⟨9, _⟩ => ⟨S1x1024x32x128, .fp8e4m3⟩
  | .local _ .vmem, ⟨10, _⟩ => ⟨S32x128, .f32⟩
  | .local _ .vmem, ⟨11, _⟩ => ⟨S32x128, .f32⟩
  | .local _ .vmem, ⟨12, _⟩ => ⟨S128x128, .f32⟩
  | .local _ .vmem, ⟨13, _⟩ => ⟨S128x128, .f32⟩
  | .local _ .vmem, ⟨14, _⟩ => ⟨S1x128x128, .bf16⟩
  | .local _ .vmem, ⟨15, _⟩ => ⟨S1x128x128, .bf16⟩
  | .local _ .vmem, ⟨16, _⟩ => ⟨S1x32x128, .fp8e4m3⟩
  | .local _ .vmem, ⟨17, _⟩ => ⟨S1x32x128, .fp8e4m3⟩
  | .local _ .vmem, ⟨18, _⟩ => ⟨S1x32x128, .fp8e4m3⟩
  | .local _ .vmem, ⟨19, _⟩ => ⟨S1x32x128, .fp8e4m3⟩
  | .local _ .vmem, ⟨20, _⟩ => ⟨S8x32x256, .bf16⟩
  | .local _ .vmem, ⟨21, _⟩ => ⟨S8x32x128, .f32⟩
  | .local _ .vmem, ⟨22, _⟩ => ⟨S8x32x128, .f32⟩
  | .local _ .vmem, ⟨23, _⟩ => ⟨S8x32x256, .f32⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v1598 : BitVec 1 := Scalar.cmpi .eq arg1 c3_i32
  let v1599 : BitVec 32 := Scalar.extui v1598
  let c0_i32_404 : BitVec 32 := 0#32
  let v1600 : BitVec 1 := Scalar.cmpi .ne v1599 c0_i32_404
  v1600

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x32x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x32x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x32x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8x1x16384 : Shape := ⟨3, ![8, 1, 16384]⟩
abbrev S8x1x32x128 : Shape := ⟨4, ![8, 1, 32, 128]⟩
abbrev S8x4096x32x128 : Shape := ⟨4, ![8, 4096, 32, 128]⟩
abbrev S32 : Shape := ⟨1, ![32]⟩
abbrev S8x32x128 : Shape := ⟨3, ![8, 32, 128]⟩
abbrev S1x32x1 : Shape := ⟨3, ![1, 32, 1]⟩
abbrev S32x1 : Shape := ⟨2, ![32, 1]⟩
abbrev S1x1x32x1 : Shape := ⟨4, ![1, 1, 32, 1]⟩
abbrev S8x32x4x128 : Shape := ⟨4, ![8, 32, 4, 128]⟩
abbrev S8x32x4x4096 : Shape := ⟨4, ![8, 32, 4, 4096]⟩
abbrev S_ : Shape := ⟨0, ![]⟩
abbrev S8x32x4 : Shape := ⟨3, ![8, 32, 4]⟩
abbrev S1 : Shape := ⟨1, ![1]⟩
abbrev S1x1 : Shape := ⟨2, ![1, 1]⟩
abbrev S1x1x1 : Shape := ⟨3, ![1, 1, 1]⟩
abbrev S8x32x4x1 : Shape := ⟨4, ![8, 32, 4, 1]⟩
abbrev S8x32x1x128 : Shape := ⟨4, ![8, 32, 1, 128]⟩
abbrev S8x128x128 : Shape := ⟨3, ![8, 128, 128]⟩

abbrev nBuf : Space → Nat
  | .hbm => 83
  | .vmem => 12
  | .smem => 0
  | _ => 0

abbrev bufTy : (tb : Table) → Fin (tcTables nBuf tb) → BufTy
  | .hbm, ⟨0, _⟩ => ⟨S8x1x16384, .bf16⟩
  | .hbm, ⟨1, _⟩ => ⟨S8x1x32x128, .bf16⟩
  | .hbm, ⟨2, _⟩ => ⟨S8x1x32x128, .bf16⟩
  | .hbm, ⟨3, _⟩ => ⟨S8x4096x32x128, .fp8e4m3⟩
  | .hbm, ⟨4, _⟩ => ⟨S32, .f32⟩
  | .hbm, ⟨5, _⟩ => ⟨S8x4096x32x128, .fp8e4m3⟩
  | .hbm, ⟨6, _⟩ => ⟨S32, .f32⟩
  | .hbm, ⟨7, _⟩ => ⟨S8x32x128, .bf16⟩
  | .hbm, ⟨8, _⟩ => ⟨S8x32x128, .bf16⟩
  | .hbm, ⟨9, _⟩ => ⟨S1x32x1, .f32⟩
  | .hbm, ⟨10, _⟩ => ⟨S8x32x128, .f32⟩
  | .hbm, ⟨11, _⟩ => ⟨S1x32x1, .f32⟩
  | .hbm, ⟨12, _⟩ => ⟨S8x32x128, .f32⟩
  | .hbm, ⟨13, _⟩ => ⟨S8x4096x32x128, .bf16⟩
  | .hbm, ⟨14, _⟩ => ⟨S8x4096x32x128, .bf16⟩
  | .hbm, ⟨15, _⟩ => ⟨S8x32x128, .fp8e4m3⟩
  | .hbm, ⟨16, _⟩ => ⟨S8x32x128, .fp8e4m3⟩
  | .hbm, ⟨17, _⟩ => ⟨S8x32x128, .bf16⟩
  | .hbm, ⟨18, _⟩ => ⟨S8x32x128, .bf16⟩
  | .hbm, ⟨19, _⟩ => ⟨S32, .bf16⟩
  | .hbm, ⟨20, _⟩ => ⟨S32x1, .bf16⟩
  | .hbm, ⟨21, _⟩ => ⟨S32, .bf16⟩
  | .hbm, ⟨22, _⟩ => ⟨S32x1, .bf16⟩
  | .hbm, ⟨23, _⟩ => ⟨S1x1x32x1, .bf16⟩
  | .hbm, ⟨24, _⟩ => ⟨S8x4096x32x128, .bf16⟩
  | .hbm, ⟨25, _⟩ => ⟨S8x4096x32x128, .bf16⟩
  | .hbm, ⟨26, _⟩ => ⟨S1x1x32x1, .bf16⟩
  | .hbm, ⟨27, _⟩ => ⟨S8x4096x32x128, .bf16⟩
  | .hbm, ⟨28, _⟩ => ⟨S8x4096x32x128, .bf16⟩
  | .hbm, ⟨29, _⟩ => ⟨S1x32x1, .bf16⟩
  | .hbm, ⟨30, _⟩ => ⟨S8x32x128, .bf16⟩
  | .hbm, ⟨31, _⟩ => ⟨S8x32x128, .bf16⟩
  | .hbm, ⟨32, _⟩ => ⟨S1x32x1, .bf16⟩
  | .hbm, ⟨33, _⟩ => ⟨S8x32x128, .bf16⟩
  | .hbm, ⟨34, _⟩ => ⟨S8x32x128, .bf16⟩
  | .hbm, ⟨35, _⟩ => ⟨S8x32x4x128, .bf16⟩
  | .hbm, ⟨36, _⟩ => ⟨S8x32x4x4096, .f32⟩
  | .hbm, ⟨37, _⟩ => ⟨S_, .f32⟩
  | .hbm, ⟨38, _⟩ => ⟨S8x32x4x4096, .f32⟩
  | .hbm, ⟨39, _⟩ => ⟨S8x32x4x4096, .f32⟩
  | .hbm, ⟨40, _⟩ => ⟨S8x32x4, .f32⟩
  | .hbm, ⟨41, _⟩ => ⟨S_, .f32⟩
  | .hbm, ⟨42, _⟩ => ⟨S8x32x4, .f32⟩
  | .hbm, ⟨43, _⟩ => ⟨S8x32x4, .f32⟩
  | .hbm, ⟨44, _⟩ => ⟨S1, .i32⟩
  | .hbm, ⟨45, _⟩ => ⟨S1x1, .i32⟩
  | .hbm, ⟨46, _⟩ => ⟨S1, .i32⟩
  | .hbm, ⟨47, _⟩ => ⟨S1x1, .i32⟩
  | .hbm, ⟨48, _⟩ => ⟨S1x1, .i1⟩
  | .hbm, ⟨49, _⟩ => ⟨S1x1x1, .i1⟩
  | .hbm, ⟨50, _⟩ => ⟨S_, .f32⟩
  | .hbm, ⟨51, _⟩ => ⟨S_, .f32⟩
  | .hbm, ⟨52, _⟩ => ⟨S8x32x4, .i1⟩
  | .hbm, ⟨53, _⟩ => ⟨S8x32x4, .f32⟩
  | .hbm, ⟨54, _⟩ => ⟨S8x32x4, .f32⟩
  | .hbm, ⟨55, _⟩ => ⟨S_, .f32⟩
  | .hbm, ⟨56, _⟩ => ⟨S8x32x4, .f32⟩
  | .hbm, ⟨57, _⟩ => ⟨S8x32x4, .f32⟩
  | .hbm, ⟨58, _⟩ => ⟨S8x32x4x1, .f32⟩
  | .hbm, ⟨59, _⟩ => ⟨S8x32x4x4096, .f32⟩
  | .hbm, ⟨60, _⟩ => ⟨S8x32x4x4096, .f32⟩
  | .hbm, ⟨61, _⟩ => ⟨S8x32x4x4096, .f32⟩
  | .hbm, ⟨62, _⟩ => ⟨S8x32x4, .f32⟩
  | .hbm, ⟨63, _⟩ => ⟨S8x32x4, .f32⟩
  | .hbm, ⟨64, _⟩ => ⟨S_, .f32⟩
  | .hbm, ⟨65, _⟩ => ⟨S8x32x4, .f32⟩
  | .hbm, ⟨66, _⟩ => ⟨S8x32x4, .f32⟩
  | .hbm, ⟨67, _⟩ => ⟨S8x32x4x4096, .bf16⟩
  | .hbm, ⟨68, _⟩ => ⟨S8x32x4x128, .f32⟩
  | .hbm, ⟨69, _⟩ => ⟨S8x32x4, .bf16⟩
  | .hbm, ⟨70, _⟩ => ⟨S8x32x4, .f32⟩
  | .hbm, ⟨71, _⟩ => ⟨S8x32x4x1, .f32⟩
  | .hbm, ⟨72, _⟩ => ⟨S8x32x128, .f32⟩
  | .hbm, ⟨73, _⟩ => ⟨S8x32x1x128, .f32⟩
  | .hbm, ⟨74, _⟩ => ⟨S8x32x4x128, .f32⟩
  | .hbm, ⟨75, _⟩ => ⟨S8x32x4x128, .f32⟩
  | .hbm, ⟨76, _⟩ => ⟨S8x32x4x128, .f32⟩
  | .hbm, ⟨77, _⟩ => ⟨S8x32x4x128, .f32⟩
  | .hbm, ⟨78, _⟩ => ⟨S8x32x4x1, .f32⟩
  | .hbm, ⟨79, _⟩ => ⟨S8x32x4x128, .f32⟩
  | .hbm, ⟨80, _⟩ => ⟨S8x32x4x128, .f32⟩
  | .hbm, ⟨81, _⟩ => ⟨S8x128x128, .f32⟩
  | .hbm, ⟨82, _⟩ => ⟨S8x128x128, .bf16⟩
  | .local _ .vmem, ⟨0, _⟩ => ⟨S8x4096x32x128, .fp8e4m3⟩
  | .local _ .vmem, ⟨1, _⟩ => ⟨S8x4096x32x128, .fp8e4m3⟩
  | .local _ .vmem, ⟨2, _⟩ => ⟨S8x32x128, .bf16⟩
  | .local _ .vmem, ⟨3, _⟩ => ⟨S8x32x128, .bf16⟩
  | .local _ .vmem, ⟨4, _⟩ => ⟨S8x32x128, .f32⟩
  | .local _ .vmem, ⟨5, _⟩ => ⟨S8x32x128, .f32⟩
  | .local _ .vmem, ⟨6, _⟩ => ⟨S8x4096x32x128, .bf16⟩
  | .local _ .vmem, ⟨7, _⟩ => ⟨S8x4096x32x128, .bf16⟩
  | .local _ .vmem, ⟨8, _⟩ => ⟨S8x32x128, .fp8e4m3⟩
  | .local _ .vmem, ⟨9, _⟩ => ⟨S8x32x128, .fp8e4m3⟩
  | .local _ .vmem, ⟨10, _⟩ => ⟨S8x32x128, .bf16⟩
  | .local _ .vmem, ⟨11, _⟩ => ⟨S8x32x128, .bf16⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x4096x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x32x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096x32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x32x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x32x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x32x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x32x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Softmax.lean ====
/-
  The arithmetic of a softmax taken a block of columns at a time, on the extended reals, with no program in it.

  A row's running state after some blocks is the largest score so far, and sums whose terms are weighted by `exp` of the
  score less that maximum; each new block rescales what was there by `exp` of the old maximum less the new one. Here the
  running sums are shown to be the plain sums against the last maximum (`runSum_eq`, `weigh_runSum`), whatever the scores
  are, infinities included; and the packed columns a kernel walks (four heads side by side, two halves of a block) are
  put back in the order of the tokens (`join_max`, `join_sum`, `join_lanes`).
-/
module

public import Idealize.ShloMosaic.PureOps.Ideal

@[expose] public section

noncomputable section

namespace Cert.Softmax

open Idealize.ShloMosaic

/-! ## `exp` of a difference -/

theorem exp_nonneg (x : EReal) : 0 ≤ Ideal.exp x := by
  induction x using EReal.rec with
  | bot => simp
  | top => simp
  | coe r => simpa using (Real.exp_pos r).le

theorem bot_sub (x : EReal) : (⊥ : EReal) - x = ⊥ := by rw [sub_eq_add_neg, EReal.bot_add]

theorem sub_top (x : EReal) : x - (⊤ : EReal) = ⊥ := by rw [sub_eq_add_neg, EReal.neg_top, EReal.add_bot]

/-- A score no larger than the maximum has a weight that is not infinite. -/
theorem exp_sub_ne_top {s m : EReal} (h : s ≤ m) : Ideal.exp (s - m) ≠ ⊤ := by
  induction s using EReal.rec with
  | bot => rw [bot_sub]; simp
  | top => rw [top_le_iff.mp h, sub_top]; simp
  | coe s =>
    induction m using EReal.rec with
    | bot => exact absurd h (by simp)
    | top => rw [sub_top]; simp
    | coe m => rw [← EReal.coe_sub, Ideal.exp_coe]; exact EReal.coe_ne_top _

/-- Rescaling a weight from one maximum to a larger one gives the weight against the larger. -/
theorem exp_sub_mul {s m m' : EReal} (h : s ≤ m) (h' : m ≤ m') :
    Ideal.exp (m - m') * Ideal.exp (s - m) = Ideal.exp (s - m') := by
  induction s using EReal.rec with
  | bot => rw [bot_sub, bot_sub]; simp
  | top =>
    obtain rfl := top_le_iff.mp h
    obtain rfl := top_le_iff.mp h'
    rw [sub_top]; simp
  | coe s =>
    induction m' using EReal.rec with
    | bot => exact absurd (h.trans h') (by simp)
    | top => rw [sub_top, sub_top]; simp
    | coe m' =>
      induction m using EReal.rec with
      | bot => exact absurd h (by simp)
      | top => exact absurd h' (by simp)
      | coe m =>
        rw [← EReal.coe_sub, ← EReal.coe_sub, ← EReal.coe_sub, Ideal.exp_coe, Ideal.exp_coe, Ideal.exp_coe,
          ← EReal.coe_mul, ← Real.exp_add]
        congr 2; ring

/-! ## A nonnegative real factor goes through a sum of extended reals -/

theorem mul_sum {ι : Type*} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

theorem sum_mul {ι : Type*} (s : Finset ι) (f : ι → EReal) {a : EReal} (h0 : 0 ≤ a) (ht : a ≠ ⊤) :
    (∑ i ∈ s, f i) * a = ∑ i ∈ s, f i * a := by
  rw [mul_comm, mul_sum s f h0 ht]; exact Finset.sum_congr rfl fun i _ => mul_comm _ _

/-! ## The running state -/

/-- The largest score of the first `n` blocks of columns. -/
def runMax {ι : Type} [Fintype ι] (S : ℕ → ι → EReal) : ℕ → EReal
  | 0 => ⊥
  | n + 1 => max (runMax S n) (Finset.univ.sup (S n))

/-- The running sum over the first `n` blocks: rescaled at each block, the block's weighted terms added. -/
def runSum {ι κ : Type} [Fintype ι] [Fintype κ] (S : ℕ → ι → EReal) (T v : ℕ → κ → EReal) : ℕ → EReal
  | 0 => 0
  | n + 1 => Ideal.exp (runMax S n - runMax S (n + 1)) * runSum S T v n
      + ∑ k, Ideal.exp (T n k - runMax S (n + 1)) * v n k

section
variable {ι κ : Type} [Fintype ι] [Fintype κ] (S : ℕ → ι → EReal) (T v : ℕ → κ → EReal)

theorem runMax_le_succ (n : ℕ) : runMax S n ≤ runMax S (n + 1) := le_max_left _ _

theorem runMax_mono {i n : ℕ} (h : i ≤ n) : runMax S i ≤ runMax S n :=
  monotone_nat_of_le_succ (runMax_le_succ S) h

theorem le_runMax {i n : ℕ} (h : i < n) (k : ι) : S i k ≤ runMax S n :=
  ((Finset.le_sup (f := S i) (Finset.mem_univ k)).trans (le_max_right _ _)).trans (runMax_mono S h)

theorem runMax_le {n : ℕ} {x : EReal} (h : ∀ i < n, ∀ k, S i k ≤ x) : runMax S n ≤ x := by
  induction n with
  | zero => exact bot_le
  | succ n ih =>
    exact max_le (ih fun i hi => h i (hi.trans n.lt_succ_self)) (Finset.sup_le fun k _ => h n n.lt_succ_self k)

/-- Weighing a plain sum against the maximum `m` by `exp (m - m')` makes it the sum against `m'`. -/
theorem weigh_sum {m m' : EReal} (hm : m ≤ m') (n : ℕ) (hT : ∀ i < n, ∀ k, T i k ≤ m) :
    Ideal.exp (m - m') * ∑ i ∈ Finset.range n, ∑ k, Ideal.exp (T i k - m) * v i k
      = ∑ i ∈ Finset.range n, ∑ k, Ideal.exp (T i k - m') * v i k := by
  have h0 := exp_nonneg (m - m')
  have ht := exp_sub_ne_top hm
  rw [mul_sum _ _ h0 ht]
  refine Finset.sum_congr rfl fun i hi => ?_
  rw [mul_sum _ _ h0 ht]
  refine Finset.sum_congr rfl fun k _ => ?_
  rw [← mul_assoc, exp_sub_mul (hT i (Finset.mem_range.mp hi) k) hm]

/-- The running sum after `n` blocks is the plain sum of the weighted terms against the maximum of those blocks. -/
theorem runSum_eq (hT : ∀ i k, T i k ≤ Finset.univ.sup (S i)) (n : ℕ) :
    runSum S T v n = ∑ i ∈ Finset.range n, ∑ k, Ideal.exp (T i k - runMax S n) * v i k := by
  induction n with
  | zero => simp [runSum]
  | succ n ih =>
    rw [runSum, ih, weigh_sum T v (runMax_le_succ S n) n, Finset.sum_range_succ]
    intro i hi k
    exact ((hT i k).trans (le_max_right _ _)).trans (runMax_mono S hi)

/-- The running sum weighed against a final maximum. -/
theorem weigh_runSum (hT : ∀ i k, T i k ≤ Finset.univ.sup (S i)) (n : ℕ) {m' : EReal} (hm : runMax S n ≤ m') :
    Ideal.exp (runMax S n - m') * runSum S T v n = ∑ i ∈ Finset.range n, ∑ k, Ideal.exp (T i k - m') * v i k := by
  rw [runSum_eq S T v hT, weigh_sum T v hm n]
  intro i hi k
  exact ((hT i k).trans (le_max_right _ _)).trans (runMax_mono S hi)

end

/-! ## The packed columns in the order of the tokens -/

/-- 2048 columns hold 512 tokens of four heads; the columns of head `j` alone. -/
theorem sum_own (j : ℕ) (hj : j < 4) (g : ℕ → EReal) :
    (∑ c : Fin 2048, if c.val % 4 = j then g (c.val / 4) else 0) = ∑ a : Fin 512, g a.val := by
  rw [← (finProdFinEquiv (m := 512) (n := 4)).sum_comp
    (fun c : Fin (512 * 4) => if c.val % 4 = j then g (c.val / 4) else 0), Fintype.sum_prod_type]
  refine Finset.sum_congr rfl fun a _ => ?_
  rw [Finset.sum_eq_single (⟨j, hj⟩ : Fin 4)]
  · have h1 : (j + 4 * a.val) % 4 = j := by omega
    have h2 : (j + 4 * a.val) / 4 = a.val := by omega
    simp [finProdFinEquiv, h1, h2]
  · intro b _ hb
    have hb' : b.val ≠ j := fun h => hb (Fin.ext h)
    have h1 : (b.val + 4 * a.val) % 4 ≠ j := by have := b.isLt; omega
    exact if_neg h1
  · intro h; exact absurd (Finset.mem_univ _) h

/-- 2048 columns are 16 tiles of 128 lanes. -/
theorem sum_tiles (g : ℕ → EReal) :
    (∑ l : Fin 128, ∑ u : Fin 16, g (128 * u.val + l.val)) = ∑ c : Fin 2048, g c.val := by
  rw [Finset.sum_comm, ← (finProdFinEquiv (m := 16) (n := 128)).sum_comp (fun c : Fin (16 * 128) => g c.val),
    Fintype.sum_prod_type]
  refine Finset.sum_congr rfl fun u _ => Finset.sum_congr rfl fun l _ => ?_
  simp only [finProdFinEquiv, Equiv.coe_fn_mk]
  congr 1; omega

/-- 4096 tokens are 4 blocks of two halves of 512. -/
theorem sum_tokens (g : ℕ → EReal) :
    (∑ t : Fin 4096, g t.val)
      = ∑ i ∈ Finset.range 4, ((∑ a : Fin 512, g (1024 * i + a.val)) + ∑ a : Fin 512, g (1024 * i + 512 + a.val)) := by
  rw [← (finProdFinEquiv (m := 4) (n := 1024)).sum_comp (fun c : Fin (4 * 1024) => g c.val), Fintype.sum_prod_type,
    Finset.sum_range]
  refine Finset.sum_congr rfl fun i _ => ?_
  rw [← (finProdFinEquiv (m := 2) (n := 512)).sum_comp
    (fun c : Fin (2 * 512) => g (finProdFinEquiv (m := 4) (n := 1024) (i, c)).val), Fintype.sum_prod_type, Fin.sum_univ_two]
  congr 1 <;> refine Finset.sum_congr rfl fun a _ => ?_ <;> simp only [finProdFinEquiv, Equiv.coe_fn_mk] <;> congr 1
  · simp; omega
  · simp; omega

/-- A column of a lane's tile. -/
abbrev laneCol (l : Fin 128) (u : Fin 16) : Fin 2048 := ⟨128 * u.val + l.val, by have := l.isLt; have := u.isLt; omega⟩

section
variable {j : ℕ} (hj : j < 4) {s : ℕ → EReal} {Sa Sb : ℕ → Fin 2048 → EReal}
  (hSa : ∀ i c, Sa i c = if c.val % 4 = j then s (1024 * i + c.val / 4) else ⊥)
  (hSb : ∀ i c, Sb i c = if c.val % 4 = j then s (1024 * i + 512 + c.val / 4) else ⊥)
include hj hSa hSb

/-- The larger of the two halves' maxima is the maximum over the tokens. -/
theorem join_max : max (runMax Sa 4) (runMax Sb 4) = Finset.univ.sup fun t : Fin 4096 => s t.val := by
  have hle : ∀ n < 4096, s n ≤ Finset.univ.sup fun t : Fin 4096 => s t.val := fun n hn =>
    Finset.le_sup (f := fun t : Fin 4096 => s t.val) (Finset.mem_univ ⟨n, hn⟩)
  apply le_antisymm
  · refine max_le (runMax_le _ fun i hi c => ?_) (runMax_le _ fun i hi c => ?_)
    · rw [hSa]; split
      · exact hle _ (by have := c.isLt; omega)
      · exact bot_le
    · rw [hSb]; split
      · exact hle _ (by have := c.isLt; omega)
      · exact bot_le
  · refine Finset.sup_le fun t _ => ?_
    have ht := t.isLt
    by_cases h : t.val % 1024 < 512
    · refine le_trans ?_ (le_max_left _ _)
      have := le_runMax Sa (i := t.val / 1024) (n := 4) (by omega) ⟨4 * (t.val % 1024) + j, by omega⟩
      rw [hSa, if_pos (by show (4 * (t.val % 1024) + j) % 4 = j; omega)] at this
      rwa [show 1024 * (t.val / 1024) + (4 * (t.val % 1024) + j) / 4 = t.val by omega] at this
    · refine le_trans ?_ (le_max_right _ _)
      have := le_runMax Sb (i := t.val / 1024) (n := 4) (by omega) ⟨4 * (t.val % 1024 - 512) + j, by omega⟩
      rw [hSb, if_pos (by show (4 * (t.val % 1024 - 512) + j) % 4 = j; omega)] at this
      rwa [show 1024 * (t.val / 1024) + 512 + (4 * (t.val % 1024 - 512) + j) / 4 = t.val by omega] at this

/-- Both halves' weighted columns together are the weighted tokens. -/
theorem join_plain {v : ℕ → EReal} {Va Vb : ℕ → Fin 2048 → EReal}
    (hVa : ∀ i < 4, ∀ c, c.val % 4 = j → Va i c = v (1024 * i + c.val / 4))
    (hVb : ∀ i < 4, ∀ c, c.val % 4 = j → Vb i c = v (1024 * i + 512 + c.val / 4)) (m : EReal) :
    (∑ i ∈ Finset.range 4, ∑ c, Ideal.exp (Sa i c - m) * Va i c)
        + (∑ i ∈ Finset.range 4, ∑ c, Ideal.exp (Sb i c - m) * Vb i c)
      = ∑ t : Fin 4096, Ideal.exp (s t.val - m) * v t.val := by
  rw [sum_tokens fun n => Ideal.exp (s n - m) * v n, ← Finset.sum_add_distrib]
  refine Finset.sum_congr rfl fun i hi => ?_
  have hi := Finset.mem_range.mp hi
  rw [← sum_own j hj fun n => Ideal.exp (s (1024 * i + n) - m) * v (1024 * i + n),
    ← sum_own j hj fun n => Ideal.exp (s (1024 * i + 512 + n) - m) * v (1024 * i + 512 + n)]
  congr 1 <;> refine Finset.sum_congr rfl fun c _ => ?_
  · rw [hSa]; split
    · rename_i h; rw [hVa i hi c h]
    · rw [bot_sub, Ideal.exp_bot, zero_mul]
  · rw [hSb]; split
    · rename_i h; rw [hVb i hi c h]
    · rw [bot_sub, Ideal.exp_bot, zero_mul]

/-- The two halves' running sums, weighed against a final maximum, are the sum over the tokens. -/
theorem join_sum {v : ℕ → EReal} {Va Vb : ℕ → Fin 2048 → EReal}
    (hVa : ∀ i < 4, ∀ c, c.val % 4 = j → Va i c = v (1024 * i + c.val / 4))
    (hVb : ∀ i < 4, ∀ c, c.val % 4 = j → Vb i c = v (1024 * i + 512 + c.val / 4))
    {m : EReal} (ha : runMax Sa 4 ≤ m) (hb : runMax Sb 4 ≤ m) :
    Ideal.exp (runMax Sa 4 - m) * runSum Sa Sa Va 4 + Ideal.exp (runMax Sb 4 - m) * runSum Sb Sb Vb 4
      = ∑ t : Fin 4096, Ideal.exp (s t.val - m) * v t.val := by
  rw [weigh_runSum Sa Sa Va (fun i k => Finset.le_sup (f := Sa i) (Finset.mem_univ k)) 4 ha,
    weigh_runSum Sb Sb Vb (fun i k => Finset.le_sup (f := Sb i) (Finset.mem_univ k)) 4 hb,
    join_plain hj hSa hSb hVa hVb]

/-- The two halves' running sums of the weights themselves, kept one to a lane, weighed and added over the lanes. -/
theorem join_lanes {m : EReal} (ha : runMax Sa 4 ≤ m) (hb : runMax Sb 4 ≤ m) :
    (∑ l : Fin 128, (Ideal.exp (runMax Sa 4 - m) * runSum Sa (fun i u => Sa i (laneCol l u)) (fun _ _ => 1) 4
        + Ideal.exp (runMax Sb 4 - m) * runSum Sb (fun i u => Sb i (laneCol l u)) (fun _ _ => 1) 4))
      = ∑ t : Fin 4096, Ideal.exp (s t.val - m) := by
  have key : ∀ S : ℕ → Fin 2048 → EReal, runMax S 4 ≤ m →
      (∑ l : Fin 128, Ideal.exp (runMax S 4 - m) * runSum S (fun i u => S i (laneCol l u)) (fun _ _ => 1) 4)
        = ∑ i ∈ Finset.range 4, ∑ c, Ideal.exp (S i c - m) * 1 := by
    intro S hS
    rw [Finset.sum_congr rfl fun l _ => weigh_runSum S (fun i u => S i (laneCol l u)) (fun _ _ => 1)
      (fun i u => Finset.le_sup (f := S i) (Finset.mem_univ (laneCol l u))) 4 hS, Finset.sum_comm]
    refine Finset.sum_congr rfl fun i _ => ?_
    have := sum_tiles fun n => if h : n < 2048 then Ideal.exp (S i ⟨n, h⟩ - m) * 1 else 0
    rw [Finset.sum_congr rfl fun (c : Fin 2048) _ => dif_pos c.isLt] at this
    rw [← this]
    refine Finset.sum_congr rfl fun l _ => Finset.sum_congr rfl fun u _ => ?_
    rw [dif_pos (laneCol l u).isLt]
  rw [Finset.sum_add_distrib, key Sa ha, key Sb hb,
    join_plain (v := fun _ => 1) hj hSa hSb (fun _ _ _ _ => rfl) (fun _ _ _ _ => rfl)]
  simp only [mul_one]

end

end Cert.Softmax
-- ==== Proof.Spec.lean ====
/-
  One query row's attention over a cached head and one new token, as a function of its numbers: what both programs are
  shown to compute. `codes` is the quantiser, `score` a scaled product of a query with a dequantised key, `attn` the
  softmax-weighted mean of the dequantised values, the new token's among them.
-/
module

public import proofs.«01_k».proof.Proof.Softmax

@[expose] public section

noncomputable section

namespace Cert.Attn

open Idealize.ShloMosaic

/-- The scale of a score, `1 / sqrt 128` as the f32 word both programs write. -/
abbrev SM : EReal := Ideal.ofBits .f32 0x3DB504F3#32

/-- A new token's code: its value over the scale, clipped to the largest code and its negative. -/
def codes (x s : EReal) : EReal :=
  min (Ideal.ofBits .f32 0x43E00000#32) (max (Ideal.ofBits .f32 0xC3E00000#32) (Ideal.div x s))

/-- The score of a query against a key's codes under their scale. -/
def score (q k : Fin 128 → EReal) (ks : EReal) : EReal := (∑ d, q d * (k d * ks)) * SM

/-- The largest score. -/
def top (s : Fin 4096 → EReal) (s1 : EReal) : EReal := max (Finset.univ.sup s) s1

/-- The softmax-weighted mean of the values `v`, the new token's `v1` among them. -/
def mean (s : Fin 4096 → EReal) (s1 : EReal) (v : Fin 4096 → EReal) (v1 : EReal) : EReal :=
  Ideal.div ((∑ t, Ideal.exp (s t - top s s1) * v t) + Ideal.exp (s1 - top s s1) * v1)
    ((∑ t, Ideal.exp (s t - top s s1)) + Ideal.exp (s1 - top s s1))

/-- One element of one query row's attention: `K`, `V` the cached codes of its head, `k1`, `v1` the new token's. -/
def attn (q : Fin 128 → EReal) (K V : Fin 4096 → Fin 128 → EReal) (k1 v1 : Fin 128 → EReal) (ks vs : EReal)
    (d : Fin 128) : EReal :=
  mean (fun t => score q (K t) ks) (score q k1 ks) (fun t => V t d * vs) (v1 d * vs)

end Cert.Attn
-- ==== Proof.Step.lean ====
/-
  One block of the cache against one group of 32 query rows, as one function of what the kernel loads. The kernel writes
  this block out once for each of its eight groups of heads; `gM`, `gL` and `gA` are the three stored values (the running
  maximum, the running weights one to a lane, the weighted values), stated once with the loads as arguments.
-/
module

public import proofs.«01_k».proof.Proof.Spec
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

section Defs

variable {F : FTy → Type} [FloatOps F]
variable (w : Vec F S16x128 .f32) (q : Vec F S1x32x256 .bf16) (K V : Vec F S1x1024x4x128 .fp8e4m3)
  (mo lo : Vec F S1x32x128 .f32) (ao : Vec F S1x32x256 .f32)

/-- A packed column belongs to the row's own head. -/
def own : IVec S32x128 1 := k0_pay34 k0_pay31 k0_pay32 k0_pay33

/-- A block's four heads, its two halves of tokens side by side. -/
def gK : FVec F S2048x256 .fp8e4m3 :=
  concatenate S2048x256 1
    [⟨S2048x128, extractStridedSlice S2048x128 ![0, 0] (shapeCast S4096x128 (shapeCast S1024x4x128 K shapeCasts_S1x1024x4x128_S1024x4x128) shapeCasts_S1024x4x128_S4096x128) slices_S4096x128_o0_0_S2048x128⟩,
     ⟨S2048x128, extractStridedSlice S2048x128 ![2048, 0] (shapeCast S4096x128 (shapeCast S1024x4x128 K shapeCasts_S1x1024x4x128_S1024x4x128) shapeCasts_S1024x4x128_S4096x128) slices_S4096x128_o2048_0_S2048x128⟩]
    concatenates_S2048x128_S2048x128_S2048x256_d1

/-- The products of the queries with the packed keys. -/
def gS : FVec F S32x2048 .f32 :=
  matmul dot_S32x256_S2048x256_S32x2048_1_1_0_0_n_n none (shapeCast S32x256 q shapeCasts_S1x32x256_S32x256) (gK K)
    (constant S32x2048 .f32 0x00000000#32)

/-- One tile of the scores, the columns of other heads at `-∞`. -/
def gT (off : ℕ) (h : S32x2048.Slices ![0, off] S32x128) : FVec F S32x128 .f32 :=
  select own (mulf (extractStridedSlice S32x128 ![0, off] (gS q K) h) (k0_pay35 w))
    (broadcast S32x128 (Scalar.ofBits .f32 0xFF800000#32))

/-- The larger of the tiles, lane by lane. -/
def gX : FVec F S32x128 .f32 :=
  (maximumf (maximumf (maximumf (maximumf (maximumf (maximumf (maximumf (maximumf (maximumf (maximumf (maximumf (maximumf (maximumf (maximumf (maximumf (gT w q K 0 slices_S32x2048_o0_0_S32x128) (gT w q K 128 slices_S32x2048_o0_128_S32x128)) (gT w q K 256 slices_S32x2048_o0_256_S32x128)) (gT w q K 384 slices_S32x2048_o0_384_S32x128)) (gT w q K 512 slices_S32x2048_o0_512_S32x128)) (gT w q K 640 slices_S32x2048_o0_640_S32x128)) (gT w q K 768 slices_S32x2048_o0_768_S32x128)) (gT w q K 896 slices_S32x2048_o0_896_S32x128)) (gT w q K 1024 slices_S32x2048_o0_1024_S32x128)) (gT w q K 1152 slices_S32x2048_o0_1152_S32x128)) (gT w q K 1280 slices_S32x2048_o0_1280_S32x128)) (gT w q K 1408 slices_S32x2048_o0_1408_S32x128)) (gT w q K 1536 slices_S32x2048_o0_1536_S32x128)) (gT w q K 1664 slices_S32x2048_o0_1664_S32x128)) (gT w q K 1792 slices_S32x2048_o0_1792_S32x128)) (gT w q K 1920 slices_S32x2048_o0_1920_S32x128))

/-- The new running maximum. -/
def gM : FVec F S32x128 .f32 :=
  maximumf (shapeCast S32x128 mo shapeCasts_S1x32x128_S32x128)
    (broadcastTo S32x128 (shapeCast S32x1 (multiReduction .maximumf [1] S32 (gX w q K) 0xFF800000#32 reduces_S32x128_S32 (.inl rfl) rfl) shapeCasts_S32_S32x1) broadcasts_S32x1_S32x128)

/-- The weight the earlier blocks are rescaled by. -/
def gE : FVec F S32x128 .f32 := exp (subf (shapeCast S32x128 mo shapeCasts_S1x32x128_S32x128) (gM w q K mo))

/-- One tile of the weights. -/
def gP (off : ℕ) (h : S32x2048.Slices ![0, off] S32x128) : FVec F S32x128 .f32 := exp (subf (gT w q K off h) (gM w q K mo))

/-- The stored maximum. -/
def gMs : FVec F S1x32x128 .f32 := shapeCast S1x32x128 (gM w q K mo) shapeCasts_S32x128_S1x32x128

/-- The stored running weights. -/
def gL : FVec F S1x32x128 .f32 :=
  shapeCast S1x32x128 (addf (mulf (gE w q K mo) (shapeCast S32x128 lo shapeCasts_S1x32x128_S32x128))
    (addf (addf (addf (addf (addf (addf (addf (addf (addf (addf (addf (addf (addf (addf (addf (gP w q K mo 0 slices_S32x2048_o0_0_S32x128) (gP w q K mo 128 slices_S32x2048_o0_128_S32x128)) (gP w q K mo 256 slices_S32x2048_o0_256_S32x128)) (gP w q K mo 384 slices_S32x2048_o0_384_S32x128)) (gP w q K mo 512 slices_S32x2048_o0_512_S32x128)) (gP w q K mo 640 slices_S32x2048_o0_640_S32x128)) (gP w q K mo 768 slices_S32x2048_o0_768_S32x128)) (gP w q K mo 896 slices_S32x2048_o0_896_S32x128)) (gP w q K mo 1024 slices_S32x2048_o0_1024_S32x128)) (gP w q K mo 1152 slices_S32x2048_o0_1152_S32x128)) (gP w q K mo 1280 slices_S32x2048_o0_1280_S32x128)) (gP w q K mo 1408 slices_S32x2048_o0_1408_S32x128)) (gP w q K mo 1536 slices_S32x2048_o0_1536_S32x128)) (gP w q K mo 1664 slices_S32x2048_o0_1664_S32x128)) (gP w q K mo 1792 slices_S32x2048_o0_1792_S32x128)) (gP w q K mo 1920 slices_S32x2048_o0_1920_S32x128))) shapeCasts_S32x128_S1x32x128

/-- The tiles of the weights side by side. -/
def gC : FVec F S32x2048 .bf16 :=
  concatenate S32x2048 1 [⟨S32x128, truncf .bf16 (gP w q K mo 0 slices_S32x2048_o0_0_S32x128) bitsLt_bf16_f32⟩, ⟨S32x128, truncf .bf16 (gP w q K mo 128 slices_S32x2048_o0_128_S32x128) bitsLt_bf16_f32⟩, ⟨S32x128, truncf .bf16 (gP w q K mo 256 slices_S32x2048_o0_256_S32x128) bitsLt_bf16_f32⟩, ⟨S32x128, truncf .bf16 (gP w q K mo 384 slices_S32x2048_o0_384_S32x128) bitsLt_bf16_f32⟩, ⟨S32x128, truncf .bf16 (gP w q K mo 512 slices_S32x2048_o0_512_S32x128) bitsLt_bf16_f32⟩, ⟨S32x128, truncf .bf16 (gP w q K mo 640 slices_S32x2048_o0_640_S32x128) bitsLt_bf16_f32⟩, ⟨S32x128, truncf .bf16 (gP w q K mo 768 slices_S32x2048_o0_768_S32x128) bitsLt_bf16_f32⟩, ⟨S32x128, truncf .bf16 (gP w q K mo 896 slices_S32x2048_o0_896_S32x128) bitsLt_bf16_f32⟩, ⟨S32x128, truncf .bf16 (gP w q K mo 1024 slices_S32x2048_o0_1024_S32x128) bitsLt_bf16_f32⟩, ⟨S32x128, truncf .bf16 (gP w q K mo 1152 slices_S32x2048_o0_1152_S32x128) bitsLt_bf16_f32⟩, ⟨S32x128, truncf .bf16 (gP w q K mo 1280 slices_S32x2048_o0_1280_S32x128) bitsLt_bf16_f32⟩, ⟨S32x128, truncf .bf16 (gP w q K mo 1408 slices_S32x2048_o0_1408_S32x128) bitsLt_bf16_f32⟩, ⟨S32x128, truncf .bf16 (gP w q K mo 1536 slices_S32x2048_o0_1536_S32x128) bitsLt_bf16_f32⟩, ⟨S32x128, truncf .bf16 (gP w q K mo 1664 slices_S32x2048_o0_1664_S32x128) bitsLt_bf16_f32⟩, ⟨S32x128, truncf .bf16 (gP w q K mo 1792 slices_S32x2048_o0_1792_S32x128) bitsLt_bf16_f32⟩, ⟨S32x128, truncf .bf16 (gP w q K mo 1920 slices_S32x2048_o0_1920_S32x128) bitsLt_bf16_f32⟩]
    concatenates_S32x128_S32x128_S32x128_S32x128_S32x128_S32x128_S32x128_S32x128_S32x128_S32x128_S32x128_S32x128_S32x128_S32x128_S32x128_S32x128_S32x2048_d1

/-- The stored weighted values. -/
def gA : FVec F S1x32x256 .f32 :=
  shapeCast S1x32x256 (addf
    (mulf (concatenate S32x256 1 [⟨S32x128, gE w q K mo⟩, ⟨S32x128, gE w q K mo⟩] concatenates_S32x128_S32x128_S32x256_d1)
      (shapeCast S32x256 ao shapeCasts_S1x32x256_S32x256))
    (matmul dot_S32x2048_S2048x256_S32x256_1_0_0_1_n_n none (gC w q K mo) (gK V) (constant S32x256 .f32 0x00000000#32)))
    shapeCasts_S32x256_S1x32x256

end Defs

/-! ## Their values at an index -/

/-- Column `l` of every tile is the own head's exactly when its remainder by four is the row's head. -/
theorem own_at : ∀ (r : Fin 32) (l : Fin 128), own (ix2 r l) = if l.val % 4 = r.val % 16 / 4 then 1 else 0 := by
  decide +kernel

end Cert.KernelIdeal.Attn
-- ==== Proof.StepAt.lean ====
/-
  The step's three stored values read at an index, at the ideal reading: each column's score, the new maximum, the
  running weights and the weighted values, as the sums and maxima of Softmax.lean.
-/
module

public import proofs.«01_k».proof.Proof.Step

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

/-! ## Sixteen tiles -/

theorem sup_castSucc {n : ℕ} (f : Fin (n + 1) → EReal) :
    Finset.univ.sup f = max (Finset.univ.sup fun i : Fin n => f i.castSucc) (f (Fin.last n)) := by
  apply le_antisymm
  · refine Finset.sup_le fun u _ => ?_
    induction u using Fin.lastCases with
    | last => exact le_max_right _ _
    | cast i => exact (Finset.le_sup (f := fun i : Fin n => f i.castSucc) (Finset.mem_univ i)).trans (le_max_left _ _)
  · exact max_le (Finset.sup_le fun i _ => Finset.le_sup (f := f) (Finset.mem_univ _)) (Finset.le_sup (f := f) (Finset.mem_univ _))

theorem sup16 (f : Fin 16 → EReal) : Finset.univ.sup f = (max (max (max (max (max (max (max (max (max (max (max (max (max (max (max (f 0) (f 1)) (f 2)) (f 3)) (f 4)) (f 5)) (f 6)) (f 7)) (f 8)) (f 9)) (f 10)) (f 11)) (f 12)) (f 13)) (f 14)) (f 15)) := by
  simp only [sup_castSucc, Finset.univ_eq_empty, Finset.sup_empty, bot_le, max_eq_right]
  rfl

theorem sum16 (f : Fin 16 → EReal) : ∑ u, f u = HAdd.hAdd (HAdd.hAdd (HAdd.hAdd (HAdd.hAdd (HAdd.hAdd (HAdd.hAdd (HAdd.hAdd (HAdd.hAdd (HAdd.hAdd (HAdd.hAdd (HAdd.hAdd (HAdd.hAdd (HAdd.hAdd (HAdd.hAdd (HAdd.hAdd (f 0) (f 1)) (f 2)) (f 3)) (f 4)) (f 5)) (f 6)) (f 7)) (f 8)) (f 9)) (f 10)) (f 11)) (f 12)) (f 13)) (f 14)) (f 15) := by
  simp only [Fin.sum_univ_castSucc, Fin.sum_univ_zero, zero_add]
  rfl

/-- The largest of the lanes' largest tiles is the largest column. -/
theorem sup_tiles (g : Fin 2048 → EReal) :
    (Finset.univ.sup fun l : Fin 128 => Finset.univ.sup fun u : Fin 16 => g (laneCol l u)) = Finset.univ.sup g := by
  apply le_antisymm
  · exact Finset.sup_le fun l _ => Finset.sup_le fun u _ => Finset.le_sup (f := g) (Finset.mem_univ _)
  · refine Finset.sup_le fun c _ => ?_
    have e : c = laneCol ⟨c.val % 128, by omega⟩ ⟨c.val / 128, by omega⟩ := Fin.ext (by simp only [laneCol]; omega)
    rw [e]
    exact (Finset.le_sup (f := fun u : Fin 16 => g (laneCol ⟨c.val % 128, by omega⟩ u)) (Finset.mem_univ _)).trans
      (Finset.le_sup (f := fun l : Fin 128 => Finset.univ.sup fun u : Fin 16 => g (laneCol l u)) (Finset.mem_univ _))

theorem slicesU : ∀ u : Fin 16, S32x2048.Slices ![0, 128 * u.val] S32x128 := by decide

/-! ## The step's parts -/

section
variable (w : Vec Ideal S16x128 .f32) (q : Vec Ideal S1x32x256 .bf16) (K V : Vec Ideal S1x1024x4x128 .fp8e4m3)
  (mo lo : Vec Ideal S1x32x128 .f32) (ao : Vec Ideal S1x32x256 .f32)

theorem gK_at (c : Fin 2048) (k : Fin 256) :
    gK K (ix2 c k) = K (ix4 0 ⟨(k.val / 128) * 512 + c.val / 4, by omega⟩ ⟨c.val % 4, by omega⟩ ⟨k.val % 128, by omega⟩) := by
  unfold gK
  pointwise
  split
  · congr 2 <;> apply Fin.ext <;> simp <;> omega
  · congr 2 <;> apply Fin.ext <;> simp <;> omega

theorem w_at (r : Fin 32) (l : Fin 128) :
    k0_pay35 w (ix2 r l) = w (ix2 ⟨r.val % 16, by omega⟩ l) * SM := by
  unfold k0_pay35
  pointwise
  split
  · congr 3 <;> apply Fin.ext <;> simp <;> omega
  · congr 3 <;> apply Fin.ext <;> simp <;> omega

theorem gS_at (r : Fin 32) (c : Fin 2048) : gS q K (ix2 r c) = ∑ k : Fin 256, q (ix3 0 r k) * gK K (ix2 c k) := by
  unfold gS
  pointwise

/-- A column's score: its query and key's product at the group's scale, `-∞` if the column is another head's. -/
def sco (r : Fin 32) (c : Fin 2048) : EReal :=
  if c.val % 4 = r.val % 16 / 4 then
    gS q K (ix2 r c) * (w (ix2 ⟨r.val % 16, by omega⟩ ⟨c.val % 128, by omega⟩) * SM) else ⊥

theorem negInf : Ideal.ofBits .f32 0xFF800000#32 = ⊥ := by simp [Ideal.ofBits, Ideal.ieee]

theorem gT_at (u : Fin 16) (r : Fin 32) (l : Fin 128) : gT w q K (128 * u.val) (slicesU u) (ix2 r l) = sco w q K r (laneCol l u) := by
  unfold gT
  pointwise
  rw [own_at, w_at, negInf]
  unfold sco
  have e1 : (128 * u.val + l.val) % 4 = l.val % 4 := by omega
  have e2 : (⟨(128 * u.val + l.val) % 128, by omega⟩ : Fin 128) = l := Fin.ext (by simp only []; omega)
  simp only [laneCol, e1, e2]
  by_cases h : l.val % 4 = r.val % 16 / 4
  · rw [if_pos h, if_pos h]; rfl
  · rw [if_neg h, if_neg h]; rfl

theorem gX_at (r : Fin 32) (l : Fin 128) : gX w q K (ix2 r l) = Finset.univ.sup fun u : Fin 16 => sco w q K r (laneCol l u) := by
  have e : gX w q K (ix2 r l) = Finset.univ.sup fun u : Fin 16 => gT w q K (128 * u.val) (slicesU u) (ix2 r l) := by
    rw [sup16]; rfl
  rw [e]
  exact congrArg _ (funext fun u => gT_at w q K u r l)

theorem gM_at (r : Fin 32) (l : Fin 128) : gM w q K mo (ix2 r l) = max (mo (ix3 0 r l)) (Finset.univ.sup (sco w q K r)) := by
  unfold gM
  pointwise
  simp only [gX_at, negInf]
  rw [← sup_tiles]
  rfl

theorem gE_at (r : Fin 32) (l : Fin 128) : gE w q K mo (ix2 r l) = Ideal.exp (mo (ix3 0 r l) - gM w q K mo (ix2 r l)) := by
  unfold gE
  pointwise

theorem gP_at (u : Fin 16) (r : Fin 32) (l : Fin 128) :
    gP w q K mo (128 * u.val) (slicesU u) (ix2 r l) = Ideal.exp (sco w q K r (laneCol l u) - gM w q K mo (ix2 r l)) := by
  unfold gP
  pointwise
  rw [gT_at]

theorem gC_at (r : Fin 32) (c : Fin 2048) :
    gC w q K mo (ix2 r c) = Ideal.exp (sco w q K r c - gM w q K mo (ix2 r ⟨c.val % 128, by omega⟩)) := by
  have e : gC w q K mo (ix2 r c) = gP w q K mo (128 * (c.val / 128)) (slicesU ⟨c.val / 128, by omega⟩) (ix2 r ⟨c.val % 128, by omega⟩) :=
    concatenate_ofFn_apply (s₁ := S32x128) (t := S32x2048) 1 (fun u : Fin 16 => truncf .bf16 (gP w q K mo (128 * u.val) (slicesU u)) bitsLt_bf16_f32)
      concatenates_S32x128_S32x128_S32x128_S32x128_S32x128_S32x128_S32x128_S32x128_S32x128_S32x128_S32x128_S32x128_S32x128_S32x128_S32x128_S32x128_S32x2048_d1 rfl 128 rfl (ix2 r c)
      ⟨c.val / 128, by omega⟩ rfl (ix2 r ⟨c.val % 128, by omega⟩) rfl
      (fun b hb => match b with
        | ⟨0, _⟩ => rfl
        | ⟨1, _⟩ => absurd rfl hb)
  rw [e, gP_at w q K mo ⟨c.val / 128, by omega⟩]
  congr 3
  apply Fin.ext; simp only [laneCol]; omega

theorem gMs_at (r : Fin 32) (l : Fin 128) : gMs w q K mo (ix3 0 r l) = gM w q K mo (ix2 r l) := by
  unfold gMs
  pointwise

theorem gL_at (r : Fin 32) (l : Fin 128) :
    gL w q K mo lo (ix3 0 r l) = Ideal.exp (mo (ix3 0 r l) - gM w q K mo (ix2 r l)) * lo (ix3 0 r l)
      + Finset.univ.sum fun u : Fin 16 => Ideal.exp (sco w q K r (laneCol l u) - gM w q K mo (ix2 r l)) := by
  have e : ∀ l, gL w q K mo lo (ix3 0 r l) = gE w q K mo (ix2 r l) * lo (ix3 0 r l)
      + Finset.univ.sum fun u : Fin 16 => gP w q K mo (128 * u.val) (slicesU u) (ix2 r l) := by
    intro l
    unfold gL
    pointwise
    rw [sum16]
    rfl
  rw [e, gE_at]
  simp only [gP_at]

theorem gEE_at (r : Fin 32) (k : Fin 256) :
    concatenate S32x256 1 [⟨S32x128, gE w q K mo⟩, ⟨S32x128, gE w q K mo⟩] concatenates_S32x128_S32x128_S32x256_d1 (ix2 r k)
      = gE w q K mo (ix2 r ⟨k.val % 128, by omega⟩) :=
  concatenate_ofFn_apply (s₁ := S32x128) (t := S32x256) 1 (fun _ : Fin 2 => gE w q K mo)
    concatenates_S32x128_S32x128_S32x256_d1 rfl 128 rfl (ix2 r k)
    ⟨k.val / 128, by omega⟩ rfl (ix2 r ⟨k.val % 128, by omega⟩) rfl
    (fun b hb => match b with
      | ⟨0, _⟩ => rfl
      | ⟨1, _⟩ => absurd rfl hb)

theorem gA_at (r : Fin 32) (k : Fin 256) :
    gA w q K V mo ao (ix3 0 r k)
      = Ideal.exp (mo (ix3 0 r ⟨k.val % 128, by omega⟩) - gM w q K mo (ix2 r ⟨k.val % 128, by omega⟩)) * ao (ix3 0 r k)
        + Finset.univ.sum fun c : Fin 2048 =>
            Ideal.exp (sco w q K r c - gM w q K mo (ix2 r ⟨c.val % 128, by omega⟩)) * gK V (ix2 c k) := by
  have e : ∀ k, gA w q K V mo ao (ix3 0 r k)
      = concatenate S32x256 1 [⟨S32x128, gE w q K mo⟩, ⟨S32x128, gE w q K mo⟩] concatenates_S32x128_S32x128_S32x256_d1 (ix2 r k) * ao (ix3 0 r k)
        + Finset.univ.sum fun c : Fin 2048 => gC w q K mo (ix2 r c) * gK V (ix2 c k) := by
    intro k
    unfold gA
    generalize concatenate S32x256 1 [⟨S32x128, gE w q K mo⟩, ⟨S32x128, gE w q K mo⟩] concatenates_S32x128_S32x128_S32x256_d1 = EE
    generalize gC w q K mo = CC
    generalize gK V = KV
    pointwise
  rw [e, gEE_at, gE_at]
  simp only [gC_at]

end

end Cert.KernelIdeal.Attn
-- ==== Proof.Sub.lean ====
/-
  The step of one block of the cache as a function of the whole scratch arrays: the eight groups of 32 query rows side
  by side, each stepped by `gM`, `gL` and `gA` on its own slices of the windows.
-/
module

public import proofs.«01_k».proof.Proof.Step
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable {F : FTy → Type} [FloatOps F]

/-- The scales of group `s`. -/
def wS (X : Vec F S128x128 .f32) (s : Fin 8) : Vec F S16x128 .f32 := fun j => X (ix2 ⟨16 * s.val + (j 0).val, by have : (j 0).val < 16 := (j 0).isLt; omega⟩ (j 1))
/-- The four heads of group `s` in a block of the cache. -/
def kS (X : Vec F S1x1024x32x128 .fp8e4m3) (s : Fin 8) : Vec F S1x1024x4x128 .fp8e4m3 :=
  fun j => X (ix4 0 (j 1) ⟨4 * s.val + (j 2).val, by have := (j 2).isLt; simp at this; omega⟩ (j 3))
/-- Group `s` of a scratch array with 256 columns. -/
def qS {e : EltTy} (X : Vec F S8x32x256 e) (s : Fin 8) : Vec F S1x32x256 e := fun j => X (ix3 s (j 1) (j 2))
/-- Group `s` of a scratch array with 128 columns. -/
def mS {e : EltTy} (X : Vec F S8x32x128 e) (s : Fin 8) : Vec F S1x32x128 e := fun j => X (ix3 s (j 1) (j 2))

theorem ld_w (X : Vec F S128x128 .f32) (s : Fin 8) (o : ℕ) (ho : o = 16 * s.val) (inb) :
    View.ld X (Rect.unit (s := S128x128) ![o, 0] ![16, 128] inb) = wS X s := by
  subst ho
  funext j
  refine congrArg X (funext fun a => Fin.ext ?_)
  match a with
  | ⟨0, _⟩ => show 16 * s.val + 1 * (j 0).val = 16 * s.val + (j 0).val; omega
  | ⟨1, _⟩ => show 0 + 1 * (j 1).val = (j 1).val; omega

theorem ld_k (X : Vec F S1x1024x32x128 .fp8e4m3) (s : Fin 8) (o : ℕ) (ho : o = 4 * s.val) (inb) :
    View.ld X (Rect.unit (s := S1x1024x32x128) ![0, 0, o, 0] ![1, 1024, 4, 128] inb) = kS X s := by
  subst ho
  funext j
  refine congrArg X (funext fun a => Fin.ext ?_)
  match a with
  | ⟨0, _⟩ => show 0 + 1 * (j 0).val = 0; have : (j 0).val < 1 := (j 0).isLt; omega
  | ⟨1, _⟩ => show 0 + 1 * (j 1).val = (j 1).val; omega
  | ⟨2, _⟩ => show 4 * s.val + 1 * (j 2).val = 4 * s.val + (j 2).val; omega
  | ⟨3, _⟩ => show 0 + 1 * (j 3).val = (j 3).val; omega

theorem ld_q {e : EltTy} (X : Vec F S8x32x256 e) (s : Fin 8) (o : ℕ) (ho : o = s.val) (inb) :
    View.ld X (Rect.unit (s := S8x32x256) ![o, 0, 0] ![1, 32, 256] inb) = qS X s := by
  subst ho
  funext j
  refine congrArg X (funext fun a => Fin.ext ?_)
  match a with
  | ⟨0, _⟩ => show s.val + 1 * (j 0).val = s.val; have : (j 0).val < 1 := (j 0).isLt; omega
  | ⟨1, _⟩ => show 0 + 1 * (j 1).val = (j 1).val; omega
  | ⟨2, _⟩ => show 0 + 1 * (j 2).val = (j 2).val; omega

theorem ld_m {e : EltTy} (X : Vec F S8x32x128 e) (s : Fin 8) (o : ℕ) (ho : o = s.val) (inb) :
    View.ld X (Rect.unit (s := S8x32x128) ![o, 0, 0] ![1, 32, 128] inb) = mS X s := by
  subst ho
  funext j
  refine congrArg X (funext fun a => Fin.ext ?_)
  match a with
  | ⟨0, _⟩ => show s.val + 1 * (j 0).val = s.val; have : (j 0).val < 1 := (j 0).isLt; omega
  | ⟨1, _⟩ => show 0 + 1 * (j 1).val = (j 1).val; omega
  | ⟨2, _⟩ => show 0 + 1 * (j 2).val = (j 2).val; omega

variable (x7 : Vec F S128x128 .f32) (q2 : Vec F S8x32x256 .bf16) (x3 x4 : Vec F S1x1024x32x128 .fp8e4m3)
  (mo lo : Vec F S8x32x128 .f32) (ao : Vec F S8x32x256 .f32)

/-- The maxima after the block. -/
def nM : Vec F S8x32x128 .f32 := fun y => gMs (wS x7 (y 0)) (qS q2 (y 0)) (kS x3 (y 0)) (mS mo (y 0)) (ix3 0 (y 1) (y 2))
/-- The running weights after the block. -/
def nL : Vec F S8x32x128 .f32 := fun y => gL (wS x7 (y 0)) (qS q2 (y 0)) (kS x3 (y 0)) (mS mo (y 0)) (mS lo (y 0)) (ix3 0 (y 1) (y 2))
/-- The weighted values after the block. -/
def nA : Vec F S8x32x256 .f32 := fun y => gA (wS x7 (y 0)) (qS q2 (y 0)) (kS x3 (y 0)) (kS x4 (y 0)) (mS mo (y 0)) (qS ao (y 0)) (ix3 0 (y 1) (y 2))

theorem at_m (f : Fin 8 → Vec F S1x32x128 .f32) (s : Fin 8) (o : ℕ) (ho : s.val = o) (y : S8x32x128.Idx) (x : S1x32x128.Idx) (h0 : (y 0).val = o + (x 0).val)
    (h1 : (y 1).val = (x 1).val) (h2 : (y 2).val = (x 2).val) : f (y 0) (ix3 0 (y 1) (y 2)) = f s x := by
  have hx : (x 0).val = 0 := by have : (x 0).val < 1 := (x 0).isLt; omega
  have e : y 0 = s := Fin.ext (by omega)
  rw [e]
  refine congrArg (f s) (funext fun a => Fin.ext ?_)
  match a with
  | ⟨0, _⟩ => exact hx.symm
  | ⟨1, _⟩ => show (y 1).val = (x 1).val; omega
  | ⟨2, _⟩ => show (y 2).val = (x 2).val; omega

theorem at_a (f : Fin 8 → Vec F S1x32x256 .f32) (s : Fin 8) (o : ℕ) (ho : s.val = o) (y : S8x32x256.Idx) (x : S1x32x256.Idx) (h0 : (y 0).val = o + (x 0).val)
    (h1 : (y 1).val = (x 1).val) (h2 : (y 2).val = (x 2).val) : f (y 0) (ix3 0 (y 1) (y 2)) = f s x := by
  have hx : (x 0).val = 0 := by have : (x 0).val < 1 := (x 0).isLt; omega
  have e : y 0 = s := Fin.ext (by omega)
  rw [e]
  refine congrArg (f s) (funext fun a => Fin.ext ?_)
  match a with
  | ⟨0, _⟩ => exact hx.symm
  | ⟨1, _⟩ => show (y 1).val = (x 1).val; omega
  | ⟨2, _⟩ => show (y 2).val = (x 2).val; omega

end Cert.KernelIdeal.Attn
-- ==== Proof.StA.lean ====
/-
  The first block of a batch's cache: the scratch arrays are reset, then stepped.
-/
module

public import proofs.«01_k».proof.Proof.Sub
public import proofs.«01_k».proof.Proof.Gen.KernelIdeal.Frame
public import Idealize.ShloMosaic.Lib.Pipeline.ValueKit
public import Idealize.ShloMosaic.Lib.Pipeline.ReadBack
public import Idealize.ShloMosaic.Lib.UnfoldOut

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable {F : FTy → Type} [FloatOps F]
variable (m : (ℓ : Loc nD τ sig) → Buf (Elt F) ℓ) (c : Dev nD)

/-- Earlier stores do not show where later ones cover. -/
theorem canon_drop {s : Shape} {e : EltTy} (L' : List (View.Piece (Elt F) s e)) (y : s.Idx) : ∀ L : List (View.Piece (Elt F) s e),
    (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hy⟩ := h
      rcases List.mem_cons.mp hq with rfl | hq
      · exact absurd hy hm
      · exact (View.canon_cons_of_not_mem p (L ++ L') hm).trans ((canon_drop L' y L ⟨q, hq, hy⟩).trans (View.canon_cons_of_not_mem p L hm).symm)

theorem cov_m {e : EltTy} (w0 w1 w2 w3 w4 w5 w6 w7 : Vec F S1x32x128 e) (y : S8x32x128.Idx) : ∃ p ∈ ([⟨Rect.unit (s := S8x32x128) ![7, 0, 0] ![1, 32, 128] inb_S8x32x128_S1x32x128_7_0_0, w7⟩, ⟨Rect.unit (s := S8x32x128) ![6, 0, 0] ![1, 32, 128] inb_S8x32x128_S1x32x128_6_0_0, w6⟩, ⟨Rect.unit (s := S8x32x128) ![5, 0, 0] ![1, 32, 128] inb_S8x32x128_S1x32x128_5_0_0, w5⟩, ⟨Rect.unit (s := S8x32x128) ![4, 0, 0] ![1, 32, 128] inb_S8x32x128_S1x32x128_4_0_0, w4⟩, ⟨Rect.unit (s := S8x32x128) ![3, 0, 0] ![1, 32, 128] inb_S8x32x128_S1x32x128_3_0_0, w3⟩, ⟨Rect.unit (s := S8x32x128) ![2, 0, 0] ![1, 32, 128] inb_S8x32x128_S1x32x128_2_0_0, w2⟩, ⟨Rect.unit (s := S8x32x128) ![1, 0, 0] ![1, 32, 128] inb_S8x32x128_S1x32x128_1_0_0, w1⟩, ⟨Rect.unit (s := S8x32x128) ![0, 0, 0] ![1, 32, 128] inb_S8x32x128_S1x32x128_0_0_0, w0⟩] : List (View.Piece (Elt F) S8x32x128 e)), y ∈ p.1.set := by
  have a0 : (y 0).val < 8 := (y 0).isLt
  have a1 : (y 1).val < 32 := (y 1).isLt
  have a2 : (y 2).val < 128 := (y 2).isLt
  have key : ∀ (o : ℕ) (inb), (y 0).val = o → y ∈ (Rect.unit (s := S8x32x128) ![o, 0, 0] ![1, 32, 128] inb).set := by
    intro o inb ho
    refine Rect.mem_set_unit.mpr fun a => ?_
    match a with
    | ⟨0, _⟩ => exact ⟨ho.ge, show (y 0).val < o + 1 by omega⟩
    | ⟨1, _⟩ => exact ⟨Nat.zero_le _, show (y 1).val < 0 + 32 by omega⟩
    | ⟨2, _⟩ => exact ⟨Nat.zero_le _, show (y 2).val < 0 + 128 by omega⟩
  rcases (show (y 0).val = 7 ∨ (y 0).val = 6 ∨ (y 0).val = 5 ∨ (y 0).val = 4 ∨ (y 0).val = 3 ∨ (y 0).val = 2 ∨ (y 0).val = 1 ∨ (y 0).val = 0 by omega) with h | h | h | h | h | h | h | h
  · exact ⟨_, List.mem_cons_self, key 7 inb_S8x32x128_S1x32x128_7_0_0 h⟩
  · exact ⟨_, List.mem_cons_of_mem _ (List.mem_cons_self), key 6 inb_S8x32x128_S1x32x128_6_0_0 h⟩
  · exact ⟨_, List.mem_cons_of_mem _ (List.mem_cons_of_mem _ (List.mem_cons_self)), key 5 inb_S8x32x128_S1x32x128_5_0_0 h⟩
  · exact ⟨_, List.mem_cons_of_mem _ (List.mem_cons_of_mem _ (List.mem_cons_of_mem _ (List.mem_cons_self))), key 4 inb_S8x32x128_S1x32x128_4_0_0 h⟩
  · exact ⟨_, List.mem_cons_of_mem _ (List.mem_cons_of_mem _ (List.mem_cons_of_mem _ (List.mem_cons_of_mem _ (List.mem_cons_self)))), key 3 inb_S8x32x128_S1x32x128_3_0_0 h⟩
  · exact ⟨_, List.mem_cons_of_mem _ (List.mem_cons_of_mem _ (List.mem_cons_of_mem _ (List.mem_cons_of_mem _ (List.mem_cons_of_mem _ (List.mem_cons_self))))), key 2 inb_S8x32x128_S1x32x128_2_0_0 h⟩
  · exact ⟨_, List.mem_cons_of_mem _ (List.mem_cons_of_mem _ (List.mem_cons_of_mem _ (List.mem_cons_of_mem _ (List.mem_cons_of_mem _ (List.mem_cons_of_mem _ (List.mem_cons_self)))))), key 1 inb_S8x32x128_S1x32x128_1_0_0 h⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 inb_S8x32x128_S1x32x128_0_0_0 h⟩

theorem cov_a {e : EltTy} (w0 w1 w2 w3 w4 w5 w6 w7 : Vec F S1x32x256 e) (y : S8x32x256.Idx) : ∃ p ∈ ([⟨Rect.unit (s := S8x32x256) ![7, 0, 0] ![1, 32, 256] inb_S8x32x256_S1x32x256_7_0_0, w7⟩, ⟨Rect.unit (s := S8x32x256) ![6, 0, 0] ![1, 32, 256] inb_S8x32x256_S1x32x256_6_0_0, w6⟩, ⟨Rect.unit (s := S8x32x256) ![5, 0, 0] ![1, 32, 256] inb_S8x32x256_S1x32x256_5_0_0, w5⟩, ⟨Rect.unit (s := S8x32x256) ![4, 0, 0] ![1, 32, 256] inb_S8x32x256_S1x32x256_4_0_0, w4⟩, ⟨Rect.unit (s := S8x32x256) ![3, 0, 0] ![1, 32, 256] inb_S8x32x256_S1x32x256_3_0_0, w3⟩, ⟨Rect.unit (s := S8x32x256) ![2, 0, 0] ![1, 32, 256] inb_S8x32x256_S1x32x256_2_0_0, w2⟩, ⟨Rect.unit (s := S8x32x256) ![1, 0, 0] ![1, 32, 256] inb_S8x32x256_S1x32x256_1_0_0, w1⟩, ⟨Rect.unit (s := S8x32x256) ![0, 0, 0] ![1, 32, 256] inb_S8x32x256_S1x32x256_0_0_0, w0⟩] : List (View.Piece (Elt F) S8x32x256 e)), y ∈ p.1.set := by
  have a0 : (y 0).val < 8 := (y 0).isLt
  have a1 : (y 1).val < 32 := (y 1).isLt
  have a2 : (y 2).val < 256 := (y 2).isLt
  have key : ∀ (o : ℕ) (inb), (y 0).val = o → y ∈ (Rect.unit (s := S8x32x256) ![o, 0, 0] ![1, 32, 256] inb).set := by
    intro o inb ho
    refine Rect.mem_set_unit.mpr fun a => ?_
    match a with
    | ⟨0, _⟩ => exact ⟨ho.ge, show (y 0).val < o + 1 by omega⟩
    | ⟨1, _⟩ => exact ⟨Nat.zero_le _, show (y 1).val < 0 + 32 by omega⟩
    | ⟨2, _⟩ => exact ⟨Nat.zero_le _, show (y 2).val < 0 + 256 by omega⟩
  rcases (show (y 0).val = 7 ∨ (y 0).val = 6 ∨ (y 0).val = 5 ∨ (y 0).val = 4 ∨ (y 0).val = 3 ∨ (y 0).val = 2 ∨ (y 0).val = 1 ∨ (y 0).val = 0 by omega) with h | h | h | h | h | h | h | h
  · exact ⟨_, List.mem_cons_self, key 7 inb_S8x32x256_S1x32x256_7_0_0 h⟩
  · exact ⟨_, List.mem_cons_of_mem _ (List.mem_cons_self), key 6 inb_S8x32x256_S1x32x256_6_0_0 h⟩
  · exact ⟨_, List.mem_cons_of_mem _ (List.mem_cons_of_mem _ (List.mem_cons_self)), key 5 inb_S8x32x256_S1x32x256_5_0_0 h⟩
  · exact ⟨_, List.mem_cons_of_mem _ (List.mem_cons_of_mem _ (List.mem_cons_of_mem _ (List.mem_cons_self))), key 4 inb_S8x32x256_S1x32x256_4_0_0 h⟩
  · exact ⟨_, List.mem_cons_of_mem _ (List.mem_cons_of_mem _ (List.mem_cons_of_mem _ (List.mem_cons_of_mem _ (List.mem_cons_self)))), key 3 inb_S8x32x256_S1x32x256_3_0_0 h⟩
  · exact ⟨_, List.mem_cons_of_mem _ (List.mem_cons_of_mem _ (List.mem_cons_of_mem _ (List.mem_cons_of_mem _ (List.mem_cons_of_mem _ (List.mem_cons_self))))), key 2 inb_S8x32x256_S1x32x256_2_0_0 h⟩
  · exact ⟨_, List.mem_cons_of_mem _ (List.mem_cons_of_mem _ (List.mem_cons_of_mem _ (List.mem_cons_of_mem _ (List.mem_cons_of_mem _ (List.mem_cons_of_mem _ (List.mem_cons_self)))))), key 1 inb_S8x32x256_S1x32x256_1_0_0 h⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 inb_S8x32x256_S1x32x256_0_0_0 h⟩

/-- The two queries a row pairs with: the group's heads in the left half of the columns for the first 16 rows, in the right half for
the others, zeros elsewhere. -/
def q2i (X : Vec F S1x128x128 .bf16) : Vec F S8x32x256 .bf16 := fun y =>
  if h1 : (y 1).val < 16 then
    if h2 : (y 2).val < 128 then k0_pay5 X (ix3 (y 0) ⟨(y 1).val, h1⟩ ⟨(y 2).val, h2⟩)
    else k0_pay6 (ix3 (y 0) ⟨(y 1).val, h1⟩ ⟨(y 2).val - 128, by have : (y 2).val < 256 := (y 2).isLt; omega⟩)
  else
    if h2 : (y 2).val < 128 then k0_pay7 (ix3 (y 0) ⟨(y 1).val - 16, by have : (y 1).val < 32 := (y 1).isLt; omega⟩ ⟨(y 2).val, h2⟩)
    else k0_pay8 X (ix3 (y 0) ⟨(y 1).val - 16, by have : (y 1).val < 32 := (y 1).isLt; omega⟩ ⟨(y 2).val - 128, by have : (y 2).val < 256 := (y 2).isLt; omega⟩)

theorem ix3_of {e : EltTy} (f : Vec F S8x16x128 e) (x : S8x16x128.Idx) (a : Fin 8) (b : Fin 16) (d : Fin 128)
    (h0 : a.val = (x 0).val) (h1 : b.val = (x 1).val) (h2 : d.val = (x 2).val) : f x = f (ix3 a b d) := by
  refine congrArg f (funext fun i => Fin.ext ?_)
  match i with
  | ⟨0, _⟩ => exact h0.symm
  | ⟨1, _⟩ => exact h1.symm
  | ⟨2, _⟩ => exact h2.symm

theorem q2i_canon (X : Vec F S1x128x128 .bf16) : View.canon
      [⟨Rect.unit (s := S8x32x256) ![0, 16, 128] ![8, 16, 128] inb_S8x32x256_S8x16x128_0_16_128, k0_pay8 X⟩,
        ⟨Rect.unit (s := S8x32x256) ![0, 16, 0] ![8, 16, 128] inb_S8x32x256_S8x16x128_0_16_0, k0_pay7⟩,
        ⟨Rect.unit (s := S8x32x256) ![0, 0, 128] ![8, 16, 128] inb_S8x32x256_S8x16x128_0_0_128, k0_pay6⟩,
        ⟨Rect.unit (s := S8x32x256) ![0, 0, 0] ![8, 16, 128] inb_S8x32x256_S8x16x128_0_0_0, k0_pay5 X⟩] = q2i X := by
  funext y
  canon_tiles x h
  · rw [q2i, dif_neg (by omega), dif_neg (by omega)]; refine ix3_of (F := F) (e := .bf16) (k0_pay8 X) x _ _ _ ?_ ?_ ?_ <;> dsimp only <;> omega
  · rw [q2i, dif_neg (by omega), dif_pos (by omega)]; refine ix3_of (F := F) (e := .bf16) (k0_pay7 (F := F)) x _ _ _ ?_ ?_ ?_ <;> dsimp only <;> omega
  · rw [q2i, dif_pos (by omega), dif_neg (by omega)]; refine ix3_of (F := F) (e := .bf16) (k0_pay6 (F := F)) x _ _ _ ?_ ?_ ?_ <;> dsimp only <;> omega
  · rw [q2i, dif_pos (by omega), dif_pos (by omega)]; refine ix3_of (F := F) (e := .bf16) (k0_pay5 X) x _ _ _ ?_ ?_ ?_ <;> dsimp only <;> omega

theorem q2i_cov (X : Vec F S1x128x128 .bf16) (o : ℕ) (inb) : View.readCov (Val := Elt F) (View.whole cc0_scratch0)
      [⟨Rect.unit (s := S8x32x256) ![0, 16, 128] ![8, 16, 128] inb_S8x32x256_S8x16x128_0_16_128, k0_pay8 X⟩,
        ⟨Rect.unit (s := S8x32x256) ![0, 16, 0] ![8, 16, 128] inb_S8x32x256_S8x16x128_0_16_0, k0_pay7⟩,
        ⟨Rect.unit (s := S8x32x256) ![0, 0, 128] ![8, 16, 128] inb_S8x32x256_S8x16x128_0_0_128, k0_pay6⟩,
        ⟨Rect.unit (s := S8x32x256) ![0, 0, 0] ![8, 16, 128] inb_S8x32x256_S8x16x128_0_0_0, k0_pay5 X⟩]
        (Rect.unit (s := S8x32x256) ![o, 0, 0] ![1, 32, 256] inb).toLoadRect = View.ld (q2i X) (Rect.unit (s := S8x32x256) ![o, 0, 0] ![1, 32, 256] inb) := by
  rw [View.readCov_eq_canon', q2i_canon]
  rfl

theorem A_q (t : Fin cfg0.N) (h0 : t.val % 4 = 0) (h1 : ¬t.val % 4 = 3) :
    (outsAt0 m c t.val t.isLt).2.2.2.1 = q2i (iblk m c 0 t) := by
  rw [outsAt0_A m c t h0 h1]
  dsimp only
  frame_out
  exact q2i_canon _

set_option maxHeartbeats 8000000 in
theorem A_m (t : Fin cfg0.N) (h0 : t.val % 4 = 0) (h1 : ¬t.val % 4 = 3) :
    (outsAt0 m c t.val t.isLt).2.2.2.2.1 = nM (iblk m c 7 t) (q2i (iblk m c 0 t)) (iblk m c 3 t) k0_pay9 := by
  rw [outsAt0_A m c t h0 h1]
  dsimp only
  funext y
  frame_out
  refine (canon_drop [_] y [_, _, _, _, _, _, _, _] (cov_m _ _ _ _ _ _ _ _ y)).trans ?_
  canon_tiles x h
  all_goals try simp (disch := decide) only [↓View.readCov_skip, ↓View.readCov_fill]
  · refine Eq.trans (congrFun ?_ x) (at_m (fun s => gMs (wS _ s) (qS _ s) (kS _ s) (mS _ s)) 7 7 rfl y x (by omega) (by omega) (by omega)).symm
    rw [q2i_cov (iblk m c 0 t) 7, ld_w _ 7 112 rfl, ld_k _ 7 28 rfl, ld_q _ 7 7 rfl, ld_m _ 7 7 rfl]
    rfl
  · refine Eq.trans (congrFun ?_ x) (at_m (fun s => gMs (wS _ s) (qS _ s) (kS _ s) (mS _ s)) 6 6 rfl y x (by omega) (by omega) (by omega)).symm
    rw [q2i_cov (iblk m c 0 t) 6, ld_w _ 6 96 rfl, ld_k _ 6 24 rfl, ld_q _ 6 6 rfl, ld_m _ 6 6 rfl]
    rfl
  · refine Eq.trans (congrFun ?_ x) (at_m (fun s => gMs (wS _ s) (qS _ s) (kS _ s) (mS _ s)) 5 5 rfl y x (by omega) (by omega) (by omega)).symm
    rw [q2i_cov (iblk m c 0 t) 5, ld_w _ 5 80 rfl, ld_k _ 5 20 rfl, ld_q _ 5 5 rfl, ld_m _ 5 5 rfl]
    rfl
  · refine Eq.trans (congrFun ?_ x) (at_m (fun s => gMs (wS _ s) (qS _ s) (kS _ s) (mS _ s)) 4 4 rfl y x (by omega) (by omega) (by omega)).symm
    rw [q2i_cov (iblk m c 0 t) 4, ld_w _ 4 64 rfl, ld_k _ 4 16 rfl, ld_q _ 4 4 rfl, ld_m _ 4 4 rfl]
    rfl
  · refine Eq.trans (congrFun ?_ x) (at_m (fun s => gMs (wS _ s) (qS _ s) (kS _ s) (mS _ s)) 3 3 rfl y x (by omega) (by omega) (by omega)).symm
    rw [q2i_cov (iblk m c 0 t) 3, ld_w _ 3 48 rfl, ld_k _ 3 12 rfl, ld_q _ 3 3 rfl, ld_m _ 3 3 rfl]
    rfl
  · refine Eq.trans (congrFun ?_ x) (at_m (fun s => gMs (wS _ s) (qS _ s) (kS _ s) (mS _ s)) 2 2 rfl y x (by omega) (by omega) (by omega)).symm
    rw [q2i_cov (iblk m c 0 t) 2, ld_w _ 2 32 rfl, ld_k _ 2 8 rfl, ld_q _ 2 2 rfl, ld_m _ 2 2 rfl]
    rfl
  · refine Eq.trans (congrFun ?_ x) (at_m (fun s => gMs (wS _ s) (qS _ s) (kS _ s) (mS _ s)) 1 1 rfl y x (by omega) (by omega) (by omega)).symm
    rw [q2i_cov (iblk m c 0 t) 1, ld_w _ 1 16 rfl, ld_k _ 1 4 rfl, ld_q _ 1 1 rfl, ld_m _ 1 1 rfl]
    rfl
  · refine Eq.trans (congrFun ?_ x) (at_m (fun s => gMs (wS _ s) (qS _ s) (kS _ s) (mS _ s)) 0 0 rfl y x (by omega) (by omega) (by omega)).symm
    rw [q2i_cov (iblk m c 0 t) 0, ld_w _ 0 0 rfl, ld_k _ 0 0 rfl, ld_q _ 0 0 rfl, ld_m _ 0 0 rfl]
    rfl

set_option maxHeartbeats 8000000 in
theorem A_l (t : Fin cfg0.N) (h0 : t.val % 4 = 0) (h1 : ¬t.val % 4 = 3) :
    (outsAt0 m c t.val t.isLt).2.2.2.2.2.1 = nL (iblk m c 7 t) (q2i (iblk m c 0 t)) (iblk m c 3 t) k0_pay9 k0_pay10 := by
  rw [outsAt0_A m c t h0 h1]
  dsimp only
  funext y
  frame_out
  refine (canon_drop [_] y [_, _, _, _, _, _, _, _] (cov_m _ _ _ _ _ _ _ _ y)).trans ?_
  canon_tiles x h
  all_goals try simp (disch := decide) only [↓View.readCov_skip, ↓View.readCov_fill]
  · refine Eq.trans (congrFun ?_ x) (at_m (fun s => gL (wS _ s) (qS _ s) (kS _ s) (mS _ s) (mS _ s)) 7 7 rfl y x (by omega) (by omega) (by omega)).symm
    rw [q2i_cov (iblk m c 0 t) 7, ld_w _ 7 112 rfl, ld_k _ 7 28 rfl, ld_q _ 7 7 rfl, ld_m _ 7 7 rfl, ld_m _ 7 7 rfl]
    rfl
  · refine Eq.trans (congrFun ?_ x) (at_m (fun s => gL (wS _ s) (qS _ s) (kS _ s) (mS _ s) (mS _ s)) 6 6 rfl y x (by omega) (by omega) (by omega)).symm
    rw [q2i_cov (iblk m c 0 t) 6, ld_w _ 6 96 rfl, ld_k _ 6 24 rfl, ld_q _ 6 6 rfl, ld_m _ 6 6 rfl, ld_m _ 6 6 rfl]
    rfl
  · refine Eq.trans (congrFun ?_ x) (at_m (fun s => gL (wS _ s) (qS _ s) (kS _ s) (mS _ s) (mS _ s)) 5 5 rfl y x (by omega) (by omega) (by omega)).symm
    rw [q2i_cov (iblk m c 0 t) 5, ld_w _ 5 80 rfl, ld_k _ 5 20 rfl, ld_q _ 5 5 rfl, ld_m _ 5 5 rfl, ld_m _ 5 5 rfl]
    rfl
  · refine Eq.trans (congrFun ?_ x) (at_m (fun s => gL (wS _ s) (qS _ s) (kS _ s) (mS _ s) (mS _ s)) 4 4 rfl y x (by omega) (by omega) (by omega)).symm
    rw [q2i_cov (iblk m c 0 t) 4, ld_w _ 4 64 rfl, ld_k _ 4 16 rfl, ld_q _ 4 4 rfl, ld_m _ 4 4 rfl, ld_m _ 4 4 rfl]
    rfl
  · refine Eq.trans (congrFun ?_ x) (at_m (fun s => gL (wS _ s) (qS _ s) (kS _ s) (mS _ s) (mS _ s)) 3 3 rfl y x (by omega) (by omega) (by omega)).symm
    rw [q2i_cov (iblk m c 0 t) 3, ld_w _ 3 48 rfl, ld_k _ 3 12 rfl, ld_q _ 3 3 rfl, ld_m _ 3 3 rfl, ld_m _ 3 3 rfl]
    rfl
  · refine Eq.trans (congrFun ?_ x) (at_m (fun s => gL (wS _ s) (qS _ s) (kS _ s) (mS _ s) (mS _ s)) 2 2 rfl y x (by omega) (by omega) (by omega)).symm
    rw [q2i_cov (iblk m c 0 t) 2, ld_w _ 2 32 rfl, ld_k _ 2 8 rfl, ld_q _ 2 2 rfl, ld_m _ 2 2 rfl, ld_m _ 2 2 rfl]
    rfl
  · refine Eq.trans (congrFun ?_ x) (at_m (fun s => gL (wS _ s) (qS _ s) (kS _ s) (mS _ s) (mS _ s)) 1 1 rfl y x (by omega) (by omega) (by omega)).symm
    rw [q2i_cov (iblk m c 0 t) 1, ld_w _ 1 16 rfl, ld_k _ 1 4 rfl, ld_q _ 1 1 rfl, ld_m _ 1 1 rfl, ld_m _ 1 1 rfl]
    rfl
  · refine Eq.trans (congrFun ?_ x) (at_m (fun s => gL (wS _ s) (qS _ s) (kS _ s) (mS _ s) (mS _ s)) 0 0 rfl y x (by omega) (by omega) (by omega)).symm
    rw [q2i_cov (iblk m c 0 t) 0, ld_w _ 0 0 rfl, ld_k _ 0 0 rfl, ld_q _ 0 0 rfl, ld_m _ 0 0 rfl, ld_m _ 0 0 rfl]
    rfl

set_option maxHeartbeats 8000000 in
theorem A_a (t : Fin cfg0.N) (h0 : t.val % 4 = 0) (h1 : ¬t.val % 4 = 3) :
    (outsAt0 m c t.val t.isLt).2.2.2.2.2.2 = nA (iblk m c 7 t) (q2i (iblk m c 0 t)) (iblk m c 3 t) (iblk m c 4 t) k0_pay9 (k0_pay29 k0_pay11) := by
  rw [outsAt0_A m c t h0 h1]
  dsimp only
  funext y
  frame_out
  refine (canon_drop [_] y [_, _, _, _, _, _, _, _] (cov_a _ _ _ _ _ _ _ _ y)).trans ?_
  canon_tiles x h
  all_goals try simp (disch := decide) only [↓View.readCov_skip, ↓View.readCov_fill]
  · refine Eq.trans (congrFun ?_ x) (at_a (fun s => gA (wS _ s) (qS _ s) (kS _ s) (kS _ s) (mS _ s) (qS _ s)) 7 7 rfl y x (by omega) (by omega) (by omega)).symm
    rw [q2i_cov (iblk m c 0 t) 7, ld_w _ 7 112 rfl, ld_k _ 7 28 rfl, ld_q _ 7 7 rfl, ld_m _ 7 7 rfl, ld_k _ 7 28 rfl, ld_q _ 7 7 rfl]
    rfl
  · refine Eq.trans (congrFun ?_ x) (at_a (fun s => gA (wS _ s) (qS _ s) (kS _ s) (kS _ s) (mS _ s) (qS _ s)) 6 6 rfl y x (by omega) (by omega) (by omega)).symm
    rw [q2i_cov (iblk m c 0 t) 6, ld_w _ 6 96 rfl, ld_k _ 6 24 rfl, ld_q _ 6 6 rfl, ld_m _ 6 6 rfl, ld_k _ 6 24 rfl, ld_q _ 6 6 rfl]
    rfl
  · refine Eq.trans (congrFun ?_ x) (at_a (fun s => gA (wS _ s) (qS _ s) (kS _ s) (kS _ s) (mS _ s) (qS _ s)) 5 5 rfl y x (by omega) (by omega) (by omega)).symm
    rw [q2i_cov (iblk m c 0 t) 5, ld_w _ 5 80 rfl, ld_k _ 5 20 rfl, ld_q _ 5 5 rfl, ld_m _ 5 5 rfl, ld_k _ 5 20 rfl, ld_q _ 5 5 rfl]
    rfl
  · refine Eq.trans (congrFun ?_ x) (at_a (fun s => gA (wS _ s) (qS _ s) (kS _ s) (kS _ s) (mS _ s) (qS _ s)) 4 4 rfl y x (by omega) (by omega) (by omega)).symm
    rw [q2i_cov (iblk m c 0 t) 4, ld_w _ 4 64 rfl, ld_k _ 4 16 rfl, ld_q _ 4 4 rfl, ld_m _ 4 4 rfl, ld_k _ 4 16 rfl, ld_q _ 4 4 rfl]
    rfl
  · refine Eq.trans (congrFun ?_ x) (at_a (fun s => gA (wS _ s) (qS _ s) (kS _ s) (kS _ s) (mS _ s) (qS _ s)) 3 3 rfl y x (by omega) (by omega) (by omega)).symm
    rw [q2i_cov (iblk m c 0 t) 3, ld_w _ 3 48 rfl, ld_k _ 3 12 rfl, ld_q _ 3 3 rfl, ld_m _ 3 3 rfl, ld_k _ 3 12 rfl, ld_q _ 3 3 rfl]
    rfl
  · refine Eq.trans (congrFun ?_ x) (at_a (fun s => gA (wS _ s) (qS _ s) (kS _ s) (kS _ s) (mS _ s) (qS _ s)) 2 2 rfl y x (by omega) (by omega) (by omega)).symm
    rw [q2i_cov (iblk m c 0 t) 2, ld_w _ 2 32 rfl, ld_k _ 2 8 rfl, ld_q _ 2 2 rfl, ld_m _ 2 2 rfl, ld_k _ 2 8 rfl, ld_q _ 2 2 rfl]
    rfl
  · refine Eq.trans (congrFun ?_ x) (at_a (fun s => gA (wS _ s) (qS _ s) (kS _ s) (kS _ s) (mS _ s) (qS _ s)) 1 1 rfl y x (by omega) (by omega) (by omega)).symm
    rw [q2i_cov (iblk m c 0 t) 1, ld_w _ 1 16 rfl, ld_k _ 1 4 rfl, ld_q _ 1 1 rfl, ld_m _ 1 1 rfl, ld_k _ 1 4 rfl, ld_q _ 1 1 rfl]
    rfl
  · refine Eq.trans (congrFun ?_ x) (at_a (fun s => gA (wS _ s) (qS _ s) (kS _ s) (kS _ s) (mS _ s) (qS _ s)) 0 0 rfl y x (by omega) (by omega) (by omega)).symm
    rw [q2i_cov (iblk m c 0 t) 0, ld_w _ 0 0 rfl, ld_k _ 0 0 rfl, ld_q _ 0 0 rfl, ld_m _ 0 0 rfl, ld_k _ 0 0 rfl, ld_q _ 0 0 rfl]
    rfl

end Cert.KernelIdeal.Attn
-- ==== Proof.Inv.lean ====
/-
  What the scratch arrays hold after a block, over the ideal reals: the running maximum and the two running sums of
  each row over the tokens of the row's half of the blocks.
-/
module

public import proofs.«01_k».proof.Proof.StepAt
public import proofs.«01_k».proof.Proof.StA

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

/-! ## The paired queries -/

theorem zero32 : Ideal.ofBits .f32 0x00000000#32 = 0 := by simp [Ideal.ofBits, Ideal.ieee]
theorem zero16 : Ideal.ofBits .bf16 0x0000#16 = 0 := by simp [Ideal.ofBits, Ideal.ieee]

theorem pay3_at (X : S1x128x128.Idx → EReal) (s : Fin 8) (r : Fin 16) (d : Fin 128) :
    k0_pay3 (F := Ideal) X (ix3 s r d) = X (ix3 0 ⟨16 * s.val + r.val, by omega⟩ d) := by
  unfold k0_pay3
  pointwise
  congr 2
  exact Fin.ext (by show s.val * 16 + r.val = 16 * s.val + r.val; omega)

theorem q2i_at (X : S1x128x128.Idx → EReal) (s : Fin 8) (r : Fin 32) (k : Fin 256) :
    q2i (F := Ideal) X (ix3 s r k)
      = if r.val / 16 = k.val / 128 then X (ix3 0 ⟨16 * s.val + r.val % 16, by omega⟩ ⟨k.val % 128, by omega⟩) else 0 := by
  have e5 : ∀ r' d, k0_pay5 (F := Ideal) X (ix3 s r' d) = X (ix3 0 ⟨16 * s.val + r'.val, by omega⟩ d) := by
    intro r' d
    rw [← pay3_at X s r' d]
    unfold k0_pay5
    generalize k0_pay3 (F := Ideal) X = Y
    pointwise
  have e8 : ∀ r' d, k0_pay8 (F := Ideal) X (ix3 s r' d) = X (ix3 0 ⟨16 * s.val + r'.val, by omega⟩ d) := by
    intro r' d
    rw [← pay3_at X s r' d]
    unfold k0_pay8
    generalize k0_pay3 (F := Ideal) X = Y
    pointwise
  have e6 : ∀ r' d, k0_pay6 (F := Ideal) (ix3 s r' d) = 0 := by
    intro r' d
    exact zero16
  have e7 : ∀ r' d, k0_pay7 (F := Ideal) (ix3 s r' d) = 0 := by
    intro r' d
    exact zero16
  unfold q2i
  by_cases h1 : r.val < 16
  · by_cases h2 : k.val < 128
    · refine (dif_pos h1).trans ((dif_pos h2).trans ((e5 _ _).trans ?_))
      rw [if_pos (by omega)]
      congr 2 <;> apply Fin.ext <;> show _ = _ <;> simp <;> omega
    · refine (dif_pos h1).trans ((dif_neg h2).trans ((e6 _ _).trans ?_))
      rw [if_neg (by omega)]
  · by_cases h2 : k.val < 128
    · refine (dif_neg h1).trans ((dif_pos h2).trans ((e7 _ _).trans ?_))
      rw [if_neg (by omega)]
    · refine (dif_neg h1).trans ((dif_neg h2).trans ((e8 _ _).trans ?_))
      rw [if_pos (by omega)]
      congr 2 <;> apply Fin.ext <;> show _ = _ <;> simp <;> omega

/-- A sum over both halves of the columns of which one is zeros. -/
theorem sum_half (h : ℕ) (hh : h < 2) (f : Fin 128 → EReal) (g : Fin 256 → EReal) :
    (∑ k : Fin 256, (if h = k.val / 128 then f ⟨k.val % 128, by omega⟩ else 0) * g k)
      = ∑ d : Fin 128, f d * g ⟨128 * h + d.val, by omega⟩ := by
  have e := Fin.sum_univ_add (a := 128) (b := 128)
    (fun k : Fin (128 + 128) => (if h = k.val / 128 then f ⟨k.val % 128, by omega⟩ else 0) * g k)
  refine e.trans ?_
  rcases (show h = 0 ∨ h = 1 by omega) with rfl | rfl
  · have z : (∑ d : Fin 128, (if 0 = (Fin.natAdd 128 d).val / 128 then f ⟨(Fin.natAdd 128 d).val % 128, by omega⟩ else 0) * g (Fin.natAdd 128 d)) = 0 :=
      Finset.sum_eq_zero fun d _ => by
        rw [if_neg (by have := d.isLt; simp only [Fin.natAdd]; omega), zero_mul]
    rw [z, add_zero]
    refine Finset.sum_congr rfl fun d _ => ?_
    rw [if_pos (by have := d.isLt; simp only [Fin.castAdd, Fin.castLE]; omega)]
    congr 2 <;> apply Fin.ext <;> simp [Fin.castAdd, Fin.castLE] <;> omega
  · have z : (∑ d : Fin 128, (if 1 = (Fin.castAdd 128 d).val / 128 then f ⟨(Fin.castAdd 128 d).val % 128, by omega⟩ else 0) * g (Fin.castAdd 128 d)) = 0 :=
      Finset.sum_eq_zero fun d _ => by
        rw [if_neg (by have := d.isLt; simp only [Fin.castAdd, Fin.castLE]; omega), zero_mul]
    rw [z, zero_add]
    refine Finset.sum_congr rfl fun d _ => ?_
    rw [if_pos (by have := d.isLt; simp only [Fin.natAdd]; omega)]
    congr 2 <;> apply Fin.ext <;> simp [Fin.natAdd] <;> omega

/-! ## The rows' scores -/

section

variable (qq : Fin 128 → Fin 128 → EReal) (KK VV : ℕ → Fin 32 → Fin 128 → EReal) (ks : Fin 32 → EReal)

/-- The key/value head of a query head. -/
abbrev hd (n : Fin 128) : Fin 32 := ⟨n.val / 4, by omega⟩
/-- The query head of a row. -/
abbrev rowN (s : Fin 8) (r : Fin 32) : Fin 128 := ⟨16 * s.val + r.val % 16, by omega⟩
/-- The score of query head `n` against token `t`. -/
def sN (n : Fin 128) (t : ℕ) : EReal := score (qq n) (KK t (hd n)) (ks (hd n))
/-- The scores of a row against the columns of block `i`. -/
def SS (s : Fin 8) (r : Fin 32) (i : ℕ) (c : Fin 2048) : EReal :=
  if c.val % 4 = r.val % 16 / 4 then sN qq KK ks (rowN s r) (1024 * i + 512 * (r.val / 16) + c.val / 4) else ⊥
/-- The values the columns of block `i` weigh, in column `k` of the sums. -/
def VS (s : Fin 8) (k : Fin 256) (i : ℕ) (c : Fin 2048) : EReal :=
  VV (1024 * i + 512 * (k.val / 128) + c.val / 4) ⟨4 * s.val + c.val % 4, by omega⟩ ⟨k.val % 128, by omega⟩

variable (hk0 : ∀ h, 0 ≤ ks h) (hkt : ∀ h, ks h ≠ ⊤)
variable (τ : ℕ) (X0 : S1x128x128.Idx → EReal) (x3 x4 : S1x1024x32x128.Idx → EReal) (x7 : S128x128.Idx → EReal)
  (hX : ∀ n d, X0 (ix3 0 n d) = qq n d) (hw : ∀ n l, x7 (ix2 n l) = ks (hd n))
  (hK : ∀ (t : Fin 1024) h d, x3 (ix4 0 t h d) = KK (1024 * τ + t.val) h d)
  (hV : ∀ (t : Fin 1024) h d, x4 (ix4 0 t h d) = VV (1024 * τ + t.val) h d)

include hk0 hkt hX hw hK in
theorem sco_eq (s : Fin 8) (r : Fin 32) (c : Fin 2048) :
    sco (wS (F := Ideal) x7 s) (qS (F := Ideal) (e := .bf16) (q2i (F := Ideal) X0) s) (kS (F := Ideal) x3 s) r c = SS qq KK ks s r τ c := by
  unfold sco SS
  split
  case isFalse => rfl
  case isTrue hc =>
    have e1 : wS (F := Ideal) x7 s (ix2 ⟨r.val % 16, by omega⟩ ⟨c.val % 128, by omega⟩) = ks (hd (rowN s r)) :=
      hw (rowN s r) ⟨c.val % 128, by omega⟩
    have e2 : gS (qS (F := Ideal) (e := .bf16) (q2i (F := Ideal) X0) s) (kS (F := Ideal) x3 s) (ix2 r c)
        = ∑ d : Fin 128, qq (rowN s r) d * KK (1024 * τ + 512 * (r.val / 16) + c.val / 4) (hd (rowN s r)) d := by
      rw [gS_at]
      have e3 : ∀ k : Fin 256, qS (F := Ideal) (e := .bf16) (q2i (F := Ideal) X0) s (ix3 0 r k)
          = if r.val / 16 = k.val / 128 then qq (rowN s r) ⟨k.val % 128, by omega⟩ else 0 := by
        intro k
        refine (q2i_at X0 s r k).trans ?_
        rw [hX]
      simp only [e3]
      rw [sum_half (r.val / 16) (by omega) (fun d => qq (rowN s r) d)]
      refine Finset.sum_congr rfl fun d _ => ?_
      rw [gK_at]
      refine congrArg (qq (rowN s r) d * ·) ?_
      refine Eq.trans (hK ⟨(128 * (r.val / 16) + d.val) / 128 * 512 + c.val / 4, by omega⟩ ⟨4 * s.val + c.val % 4, by omega⟩ ⟨(128 * (r.val / 16) + d.val) % 128, by omega⟩) ?_
      have a1 : 1024 * τ + ((128 * (r.val / 16) + d.val) / 128 * 512 + c.val / 4) = 1024 * τ + 512 * (r.val / 16) + c.val / 4 := by omega
      have a2 : (⟨4 * s.val + c.val % 4, by omega⟩ : Fin 32) = hd (rowN s r) := Fin.ext (by show 4 * s.val + c.val % 4 = (16 * s.val + r.val % 16) / 4; omega)
      have a3 : (⟨(128 * (r.val / 16) + d.val) % 128, by omega⟩ : Fin 128) = d := Fin.ext (by show (128 * (r.val / 16) + d.val) % 128 = d.val; omega)
      show KK (1024 * τ + ((128 * (r.val / 16) + d.val) / 128 * 512 + c.val / 4)) _ _ = _
      rw [a1, a2, a3]
    rw [e1, e2, ← mul_assoc, sum_mul _ _ (hk0 _) (hkt _)]
    unfold sN score
    simp only [mul_assoc]

variable (mo lo : S8x32x128.Idx → EReal) (ao : S8x32x256.Idx → EReal)
  (hm : ∀ s r l, mo (ix3 s r l) = runMax (SS qq KK ks s r) τ)

include hk0 hkt hX hw hK hm in
theorem gM_eq (s : Fin 8) (r : Fin 32) (l : Fin 128) :
    gM (wS (F := Ideal) x7 s) (qS (F := Ideal) (e := .bf16) (q2i (F := Ideal) X0) s) (kS (F := Ideal) x3 s) (mS (F := Ideal) (e := .f32) mo s) (ix2 r l)
      = runMax (SS qq KK ks s r) (τ + 1) := by
  rw [gM_at, show mS (F := Ideal) (e := .f32) mo s (ix3 0 r l) = runMax (SS qq KK ks s r) τ from hm s r l]
  rw [show sco (wS (F := Ideal) x7 s) (qS (F := Ideal) (e := .bf16) (q2i (F := Ideal) X0) s) (kS (F := Ideal) x3 s) r = SS qq KK ks s r τ from
    funext fun c => sco_eq qq KK ks hk0 hkt τ X0 x3 x7 hX hw hK s r c]
  rfl

include hk0 hkt hX hw hK hm in
theorem nM_eq (s : Fin 8) (r : Fin 32) (l : Fin 128) :
    nM (F := Ideal) x7 (q2i (F := Ideal) X0) x3 mo (ix3 s r l) = runMax (SS qq KK ks s r) (τ + 1) :=
  (gMs_at (wS (F := Ideal) x7 s) (qS (F := Ideal) (e := .bf16) (q2i (F := Ideal) X0) s) (kS (F := Ideal) x3 s) (mS (F := Ideal) (e := .f32) mo s) r l).trans (gM_eq qq KK ks hk0 hkt τ X0 x3 x7 hX hw hK mo hm s r l)

include hk0 hkt hX hw hK hm in
theorem nL_eq (hl : ∀ s r l, lo (ix3 s r l) = runSum (SS qq KK ks s r) (fun i u => SS qq KK ks s r i (laneCol l u)) (fun _ _ => 1) τ)
    (s : Fin 8) (r : Fin 32) (l : Fin 128) :
    nL (F := Ideal) x7 (q2i (F := Ideal) X0) x3 mo lo (ix3 s r l)
      = runSum (SS qq KK ks s r) (fun i u => SS qq KK ks s r i (laneCol l u)) (fun _ _ => 1) (τ + 1) := by
  refine (gL_at (wS (F := Ideal) x7 s) (qS (F := Ideal) (e := .bf16) (q2i (F := Ideal) X0) s) (kS (F := Ideal) x3 s) (mS (F := Ideal) (e := .f32) mo s) (mS (F := Ideal) (e := .f32) lo s) r l).trans ?_
  simp only [gM_eq qq KK ks hk0 hkt τ X0 x3 x7 hX hw hK mo hm, sco_eq qq KK ks hk0 hkt τ X0 x3 x7 hX hw hK]
  rw [show mS (F := Ideal) (e := .f32) mo s (ix3 0 r l) = runMax (SS qq KK ks s r) τ from hm s r l,
    show mS (F := Ideal) (e := .f32) lo s (ix3 0 r l) = _ from hl s r l]
  simp only [runSum, mul_one]

include hk0 hkt hX hw hK hm hV in
theorem nA_eq (ha : ∀ s r k, ao (ix3 s r k) = runSum (SS qq KK ks s r) (SS qq KK ks s r) (VS VV s k) τ)
    (s : Fin 8) (r : Fin 32) (k : Fin 256) :
    nA (F := Ideal) x7 (q2i (F := Ideal) X0) x3 x4 mo ao (ix3 s r k)
      = runSum (SS qq KK ks s r) (SS qq KK ks s r) (VS VV s k) (τ + 1) := by
  refine (gA_at (wS (F := Ideal) x7 s) (qS (F := Ideal) (e := .bf16) (q2i (F := Ideal) X0) s) (kS (F := Ideal) x3 s) (kS (F := Ideal) x4 s) (mS (F := Ideal) (e := .f32) mo s) (qS (F := Ideal) (e := .f32) ao s) r k).trans ?_
  simp only [gM_eq qq KK ks hk0 hkt τ X0 x3 x7 hX hw hK mo hm, sco_eq qq KK ks hk0 hkt τ X0 x3 x7 hX hw hK]
  rw [show mS (F := Ideal) (e := .f32) mo s (ix3 0 r _) = runMax (SS qq KK ks s r) τ from hm s r _,
    show qS (F := Ideal) (e := .f32) ao s (ix3 0 r k) = _ from ha s r k]
  have e : ∀ c : Fin 2048, gK (kS (F := Ideal) x4 s) (ix2 c k) = VS VV s k τ c := by
    intro c
    rw [gK_at]
    refine Eq.trans (hV ⟨k.val / 128 * 512 + c.val / 4, by omega⟩ ⟨4 * s.val + c.val % 4, by omega⟩ ⟨k.val % 128, by omega⟩) ?_
    unfold VS
    congr 1
    show 1024 * τ + (k.val / 128 * 512 + c.val / 4) = _
    omega
  simp only [e, runSum]

end

end Cert.KernelIdeal.Attn
-- ==== Proof.StB.lean ====
/-
  A block in the middle of a batch's cache: the scratch arrays after it are the step of those before it.
-/
module

public import proofs.«01_k».proof.Proof.Sub
public import proofs.«01_k».proof.Proof.Gen.KernelIdeal.Frame
public import Idealize.ShloMosaic.Lib.Pipeline.ValueKit
public import Idealize.ShloMosaic.Lib.Pipeline.ReadBack
public import Idealize.ShloMosaic.Lib.UnfoldOut

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable {F : FTy → Type} [FloatOps F]
variable (m : (ℓ : Loc nD τ sig) → Buf (Elt F) ℓ) (c : Dev nD)

set_option maxHeartbeats 8000000 in
theorem B_m (t : Fin cfg0.N) (h0 : ¬t.val % 4 = 0) (h1 : ¬t.val % 4 = 3) :
    (outsAt0 m c t.val t.isLt).2.2.2.2.1 = nM (iblk m c 7 t) (outsAt0 m c (t.val - 1) (Nat.lt_of_le_of_lt (Nat.sub_le _ _) t.isLt)).2.2.2.1 (iblk m c 3 t) (outsAt0 m c (t.val - 1) (Nat.lt_of_le_of_lt (Nat.sub_le _ _) t.isLt)).2.2.2.2.1 := by
  rw [outsAt0_B m c t h0 h1]
  dsimp only
  generalize outsAt0 m c (t.val - 1) _ = P
  funext y
  frame_out
  canon_tiles x h
  all_goals simp only [read_unread_whole]
  · refine Eq.trans (congrFun ?_ x) (at_m (fun s => gMs (wS _ s) (qS _ s) (kS _ s) (mS _ s)) 7 7 rfl y x (by omega) (by omega) (by omega)).symm
    rw [ld_w _ 7 112 rfl, ld_k _ 7 28 rfl, ld_q _ 7 7 rfl, ld_m _ 7 7 rfl]
    rfl
  · refine Eq.trans (congrFun ?_ x) (at_m (fun s => gMs (wS _ s) (qS _ s) (kS _ s) (mS _ s)) 6 6 rfl y x (by omega) (by omega) (by omega)).symm
    rw [ld_w _ 6 96 rfl, ld_k _ 6 24 rfl, ld_q _ 6 6 rfl, ld_m _ 6 6 rfl]
    rfl
  · refine Eq.trans (congrFun ?_ x) (at_m (fun s => gMs (wS _ s) (qS _ s) (kS _ s) (mS _ s)) 5 5 rfl y x (by omega) (by omega) (by omega)).symm
    rw [ld_w _ 5 80 rfl, ld_k _ 5 20 rfl, ld_q _ 5 5 rfl, ld_m _ 5 5 rfl]
    rfl
  · refine Eq.trans (congrFun ?_ x) (at_m (fun s => gMs (wS _ s) (qS _ s) (kS _ s) (mS _ s)) 4 4 rfl y x (by omega) (by omega) (by omega)).symm
    rw [ld_w _ 4 64 rfl, ld_k _ 4 16 rfl, ld_q _ 4 4 rfl, ld_m _ 4 4 rfl]
    rfl
  · refine Eq.trans (congrFun ?_ x) (at_m (fun s => gMs (wS _ s) (qS _ s) (kS _ s) (mS _ s)) 3 3 rfl y x (by omega) (by omega) (by omega)).symm
    rw [ld_w _ 3 48 rfl, ld_k _ 3 12 rfl, ld_q _ 3 3 rfl, ld_m _ 3 3 rfl]
    rfl
  · refine Eq.trans (congrFun ?_ x) (at_m (fun s => gMs (wS _ s) (qS _ s) (kS _ s) (mS _ s)) 2 2 rfl y x (by omega) (by omega) (by omega)).symm
    rw [ld_w _ 2 32 rfl, ld_k _ 2 8 rfl, ld_q _ 2 2 rfl, ld_m _ 2 2 rfl]
    rfl
  · refine Eq.trans (congrFun ?_ x) (at_m (fun s => gMs (wS _ s) (qS _ s) (kS _ s) (mS _ s)) 1 1 rfl y x (by omega) (by omega) (by omega)).symm
    rw [ld_w _ 1 16 rfl, ld_k _ 1 4 rfl, ld_q _ 1 1 rfl, ld_m _ 1 1 rfl]
    rfl
  · refine Eq.trans (congrFun ?_ x) (at_m (fun s => gMs (wS _ s) (qS _ s) (kS _ s) (mS _ s)) 0 0 rfl y x (by omega) (by omega) (by omega)).symm
    rw [ld_w _ 0 0 rfl, ld_k _ 0 0 rfl, ld_q _ 0 0 rfl, ld_m _ 0 0 rfl]
    rfl

set_option maxHeartbeats 8000000 in
theorem B_l (t : Fin cfg0.N) (h0 : ¬t.val % 4 = 0) (h1 : ¬t.val % 4 = 3) :
    (outsAt0 m c t.val t.isLt).2.2.2.2.2.1 = nL (iblk m c 7 t) (outsAt0 m c (t.val - 1) (Nat.lt_of_le_of_lt (Nat.sub_le _ _) t.isLt)).2.2.2.1 (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  rw [outsAt0_B m c t h0 h1]
  dsimp only
  generalize outsAt0 m c (t.val - 1) _ = P
  funext y
  frame_out
  canon_tiles x h
  all_goals simp only [read_unread_whole]
  · refine Eq.trans (congrFun ?_ x) (at_m (fun s => gL (wS _ s) (qS _ s) (kS _ s) (mS _ s) (mS _ s)) 7 7 rfl y x (by omega) (by omega) (by omega)).symm
    rw [ld_w _ 7 112 rfl, ld_k _ 7 28 rfl, ld_q _ 7 7 rfl, ld_m _ 7 7 rfl, ld_m _ 7 7 rfl]
    rfl
  · refine Eq.trans (congrFun ?_ x) (at_m (fun s => gL (wS _ s) (qS _ s) (kS _ s) (mS _ s) (mS _ s)) 6 6 rfl y x (by omega) (by omega) (by omega)).symm
    rw [ld_w _ 6 96 rfl, ld_k _ 6 24 rfl, ld_q _ 6 6 rfl, ld_m _ 6 6 rfl, ld_m _ 6 6 rfl]
    rfl
  · refine Eq.trans (congrFun ?_ x) (at_m (fun s => gL (wS _ s) (qS _ s) (kS _ s) (mS _ s) (mS _ s)) 5 5 rfl y x (by omega) (by omega) (by omega)).symm
    rw [ld_w _ 5 80 rfl, ld_k _ 5 20 rfl, ld_q _ 5 5 rfl, ld_m _ 5 5 rfl, ld_m _ 5 5 rfl]
    rfl
  · refine Eq.trans (congrFun ?_ x) (at_m (fun s => gL (wS _ s) (qS _ s) (kS _ s) (mS _ s) (mS _ s)) 4 4 rfl y x (by omega) (by omega) (by omega)).symm
    rw [ld_w _ 4 64 rfl, ld_k _ 4 16 rfl, ld_q _ 4 4 rfl, ld_m _ 4 4 rfl, ld_m _ 4 4 rfl]
    rfl
  · refine Eq.trans (congrFun ?_ x) (at_m (fun s => gL (wS _ s) (qS _ s) (kS _ s) (mS _ s) (mS _ s)) 3 3 rfl y x (by omega) (by omega) (by omega)).symm
    rw [ld_w _ 3 48 rfl, ld_k _ 3 12 rfl, ld_q _ 3 3 rfl, ld_m _ 3 3 rfl, ld_m _ 3 3 rfl]
    rfl
  · refine Eq.trans (congrFun ?_ x) (at_m (fun s => gL (wS _ s) (qS _ s) (kS _ s) (mS _ s) (mS _ s)) 2 2 rfl y x (by omega) (by omega) (by omega)).symm
    rw [ld_w _ 2 32 rfl, ld_k _ 2 8 rfl, ld_q _ 2 2 rfl, ld_m _ 2 2 rfl, ld_m _ 2 2 rfl]
    rfl
  · refine Eq.trans (congrFun ?_ x) (at_m (fun s => gL (wS _ s) (qS _ s) (kS _ s) (mS _ s) (mS _ s)) 1 1 rfl y x (by omega) (by omega) (by omega)).symm
    rw [ld_w _ 1 16 rfl, ld_k _ 1 4 rfl, ld_q _ 1 1 rfl, ld_m _ 1 1 rfl, ld_m _ 1 1 rfl]
    rfl
  · refine Eq.trans (congrFun ?_ x) (at_m (fun s => gL (wS _ s) (qS _ s) (kS _ s) (mS _ s) (mS _ s)) 0 0 rfl y x (by omega) (by omega) (by omega)).symm
    rw [ld_w _ 0 0 rfl, ld_k _ 0 0 rfl, ld_q _ 0 0 rfl, ld_m _ 0 0 rfl, ld_m _ 0 0 rfl]
    rfl

set_option maxHeartbeats 8000000 in
theorem B_a (t : Fin cfg0.N) (h0 : ¬t.val % 4 = 0) (h1 : ¬t.val % 4 = 3) :
    (outsAt0 m c t.val t.isLt).2.2.2.2.2.2 = nA (iblk m c 7 t) (outsAt0 m c (t.val - 1) (Nat.lt_of_le_of_lt (Nat.sub_le _ _) t.isLt)).2.2.2.1 (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 := by
  rw [outsAt0_B m c t h0 h1]
  dsimp only
  generalize outsAt0 m c (t.val - 1) _ = P
  funext y
  frame_out
  canon_tiles x h
  all_goals simp only [read_unread_whole]
  · refine Eq.trans (congrFun ?_ x) (at_a (fun s => gA (wS _ s) (qS _ s) (kS _ s) (kS _ s) (mS _ s) (qS _ s)) 7 7 rfl y x (by omega) (by omega) (by omega)).symm
    rw [ld_w _ 7 112 rfl, ld_k _ 7 28 rfl, ld_q _ 7 7 rfl, ld_m _ 7 7 rfl, ld_k _ 7 28 rfl, ld_q _ 7 7 rfl]
    rfl
  · refine Eq.trans (congrFun ?_ x) (at_a (fun s => gA (wS _ s) (qS _ s) (kS _ s) (kS _ s) (mS _ s) (qS _ s)) 6 6 rfl y x (by omega) (by omega) (by omega)).symm
    rw [ld_w _ 6 96 rfl, ld_k _ 6 24 rfl, ld_q _ 6 6 rfl, ld_m _ 6 6 rfl, ld_k _ 6 24 rfl, ld_q _ 6 6 rfl]
    rfl
  · refine Eq.trans (congrFun ?_ x) (at_a (fun s => gA (wS _ s) (qS _ s) (kS _ s) (kS _ s) (mS _ s) (qS _ s)) 5 5 rfl y x (by omega) (by omega) (by omega)).symm
    rw [ld_w _ 5 80 rfl, ld_k _ 5 20 rfl, ld_q _ 5 5 rfl, ld_m _ 5 5 rfl, ld_k _ 5 20 rfl, ld_q _ 5 5 rfl]
    rfl
  · refine Eq.trans (congrFun ?_ x) (at_a (fun s => gA (wS _ s) (qS _ s) (kS _ s) (kS _ s) (mS _ s) (qS _ s)) 4 4 rfl y x (by omega) (by omega) (by omega)).symm
    rw [ld_w _ 4 64 rfl, ld_k _ 4 16 rfl, ld_q _ 4 4 rfl, ld_m _ 4 4 rfl, ld_k _ 4 16 rfl, ld_q _ 4 4 rfl]
    rfl
  · refine Eq.trans (congrFun ?_ x) (at_a (fun s => gA (wS _ s) (qS _ s) (kS _ s) (kS _ s) (mS _ s) (qS _ s)) 3 3 rfl y x (by omega) (by omega) (by omega)).symm
    rw [ld_w _ 3 48 rfl, ld_k _ 3 12 rfl, ld_q _ 3 3 rfl, ld_m _ 3 3 rfl, ld_k _ 3 12 rfl, ld_q _ 3 3 rfl]
    rfl
  · refine Eq.trans (congrFun ?_ x) (at_a (fun s => gA (wS _ s) (qS _ s) (kS _ s) (kS _ s) (mS _ s) (qS _ s)) 2 2 rfl y x (by omega) (by omega) (by omega)).symm
    rw [ld_w _ 2 32 rfl, ld_k _ 2 8 rfl, ld_q _ 2 2 rfl, ld_m _ 2 2 rfl, ld_k _ 2 8 rfl, ld_q _ 2 2 rfl]
    rfl
  · refine Eq.trans (congrFun ?_ x) (at_a (fun s => gA (wS _ s) (qS _ s) (kS _ s) (kS _ s) (mS _ s) (qS _ s)) 1 1 rfl y x (by omega) (by omega) (by omega)).symm
    rw [ld_w _ 1 16 rfl, ld_k _ 1 4 rfl, ld_q _ 1 1 rfl, ld_m _ 1 1 rfl, ld_k _ 1 4 rfl, ld_q _ 1 1 rfl]
    rfl
  · refine Eq.trans (congrFun ?_ x) (at_a (fun s => gA (wS _ s) (qS _ s) (kS _ s) (kS _ s) (mS _ s) (qS _ s)) 0 0 rfl y x (by omega) (by omega) (by omega)).symm
    rw [ld_w _ 0 0 rfl, ld_k _ 0 0 rfl, ld_q _ 0 0 rfl, ld_m _ 0 0 rfl, ld_k _ 0 0 rfl, ld_q _ 0 0 rfl]
    rfl

end Cert.KernelIdeal.Attn
-- ==== Proof.StC.lean ====
/-
  The last block of a batch's cache: the scratch arrays after it are the step of those before it.
-/
module

public import proofs.«01_k».proof.Proof.Sub
public import proofs.«01_k».proof.Proof.Gen.KernelIdeal.Frame
public import Idealize.ShloMosaic.Lib.Pipeline.ValueKit
public import Idealize.ShloMosaic.Lib.Pipeline.ReadBack
public import Idealize.ShloMosaic.Lib.UnfoldOut

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable {F : FTy → Type} [FloatOps F]
variable (m : (ℓ : Loc nD τ sig) → Buf (Elt F) ℓ) (c : Dev nD)

set_option maxHeartbeats 8000000 in
theorem C_m (t : Fin cfg0.N) (h0 : ¬t.val % 4 = 0) (h1 : t.val % 4 = 3) :
    (outsAt0 m c t.val t.isLt).2.2.2.2.1 = nM (iblk m c 7 t) (outsAt0 m c (t.val - 1) (Nat.lt_of_le_of_lt (Nat.sub_le _ _) t.isLt)).2.2.2.1 (iblk m c 3 t) (outsAt0 m c (t.val - 1) (Nat.lt_of_le_of_lt (Nat.sub_le _ _) t.isLt)).2.2.2.2.1 := by
  rw [outsAt0_C m c t h0 h1]
  dsimp only
  generalize outsAt0 m c (t.val - 1) _ = P
  funext y
  frame_out
  canon_tiles x h
  all_goals simp only [read_unread_whole]
  · refine Eq.trans (congrFun ?_ x) (at_m (fun s => gMs (wS _ s) (qS _ s) (kS _ s) (mS _ s)) 7 7 rfl y x (by omega) (by omega) (by omega)).symm
    rw [ld_w _ 7 112 rfl, ld_k _ 7 28 rfl, ld_q _ 7 7 rfl, ld_m _ 7 7 rfl]
    rfl
  · refine Eq.trans (congrFun ?_ x) (at_m (fun s => gMs (wS _ s) (qS _ s) (kS _ s) (mS _ s)) 6 6 rfl y x (by omega) (by omega) (by omega)).symm
    rw [ld_w _ 6 96 rfl, ld_k _ 6 24 rfl, ld_q _ 6 6 rfl, ld_m _ 6 6 rfl]
    rfl
  · refine Eq.trans (congrFun ?_ x) (at_m (fun s => gMs (wS _ s) (qS _ s) (kS _ s) (mS _ s)) 5 5 rfl y x (by omega) (by omega) (by omega)).symm
    rw [ld_w _ 5 80 rfl, ld_k _ 5 20 rfl, ld_q _ 5 5 rfl, ld_m _ 5 5 rfl]
    rfl
  · refine Eq.trans (congrFun ?_ x) (at_m (fun s => gMs (wS _ s) (qS _ s) (kS _ s) (mS _ s)) 4 4 rfl y x (by omega) (by omega) (by omega)).symm
    rw [ld_w _ 4 64 rfl, ld_k _ 4 16 rfl, ld_q _ 4 4 rfl, ld_m _ 4 4 rfl]
    rfl
  · refine Eq.trans (congrFun ?_ x) (at_m (fun s => gMs (wS _ s) (qS _ s) (kS _ s) (mS _ s)) 3 3 rfl y x (by omega) (by omega) (by omega)).symm
    rw [ld_w _ 3 48 rfl, ld_k _ 3 12 rfl, ld_q _ 3 3 rfl, ld_m _ 3 3 rfl]
    rfl
  · refine Eq.trans (congrFun ?_ x) (at_m (fun s => gMs (wS _ s) (qS _ s) (kS _ s) (mS _ s)) 2 2 rfl y x (by omega) (by omega) (by omega)).symm
    rw [ld_w _ 2 32 rfl, ld_k _ 2 8 rfl, ld_q _ 2 2 rfl, ld_m _ 2 2 rfl]
    rfl
  · refine Eq.trans (congrFun ?_ x) (at_m (fun s => gMs (wS _ s) (qS _ s) (kS _ s) (mS _ s)) 1 1 rfl y x (by omega) (by omega) (by omega)).symm
    rw [ld_w _ 1 16 rfl, ld_k _ 1 4 rfl, ld_q _ 1 1 rfl, ld_m _ 1 1 rfl]
    rfl
  · refine Eq.trans (congrFun ?_ x) (at_m (fun s => gMs (wS _ s) (qS _ s) (kS _ s) (mS _ s)) 0 0 rfl y x (by omega) (by omega) (by omega)).symm
    rw [ld_w _ 0 0 rfl, ld_k _ 0 0 rfl, ld_q _ 0 0 rfl, ld_m _ 0 0 rfl]
    rfl

set_option maxHeartbeats 8000000 in
theorem C_l (t : Fin cfg0.N) (h0 : ¬t.val % 4 = 0) (h1 : t.val % 4 = 3) :
    (outsAt0 m c t.val t.isLt).2.2.2.2.2.1 = nL (iblk m c 7 t) (outsAt0 m c (t.val - 1) (Nat.lt_of_le_of_lt (Nat.sub_le _ _) t.isLt)).2.2.2.1 (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  rw [outsAt0_C m c t h0 h1]
  dsimp only
  generalize outsAt0 m c (t.val - 1) _ = P
  funext y
  frame_out
  canon_tiles x h
  all_goals simp only [read_unread_whole]
  · refine Eq.trans (congrFun ?_ x) (at_m (fun s => gL (wS _ s) (qS _ s) (kS _ s) (mS _ s) (mS _ s)) 7 7 rfl y x (by omega) (by omega) (by omega)).symm
    rw [ld_w _ 7 112 rfl, ld_k _ 7 28 rfl, ld_q _ 7 7 rfl, ld_m _ 7 7 rfl, ld_m _ 7 7 rfl]
    rfl
  · refine Eq.trans (congrFun ?_ x) (at_m (fun s => gL (wS _ s) (qS _ s) (kS _ s) (mS _ s) (mS _ s)) 6 6 rfl y x (by omega) (by omega) (by omega)).symm
    rw [ld_w _ 6 96 rfl, ld_k _ 6 24 rfl, ld_q _ 6 6 rfl, ld_m _ 6 6 rfl, ld_m _ 6 6 rfl]
    rfl
  · refine Eq.trans (congrFun ?_ x) (at_m (fun s => gL (wS _ s) (qS _ s) (kS _ s) (mS _ s) (mS _ s)) 5 5 rfl y x (by omega) (by omega) (by omega)).symm
    rw [ld_w _ 5 80 rfl, ld_k _ 5 20 rfl, ld_q _ 5 5 rfl, ld_m _ 5 5 rfl, ld_m _ 5 5 rfl]
    rfl
  · refine Eq.trans (congrFun ?_ x) (at_m (fun s => gL (wS _ s) (qS _ s) (kS _ s) (mS _ s) (mS _ s)) 4 4 rfl y x (by omega) (by omega) (by omega)).symm
    rw [ld_w _ 4 64 rfl, ld_k _ 4 16 rfl, ld_q _ 4 4 rfl, ld_m _ 4 4 rfl, ld_m _ 4 4 rfl]
    rfl
  · refine Eq.trans (congrFun ?_ x) (at_m (fun s => gL (wS _ s) (qS _ s) (kS _ s) (mS _ s) (mS _ s)) 3 3 rfl y x (by omega) (by omega) (by omega)).symm
    rw [ld_w _ 3 48 rfl, ld_k _ 3 12 rfl, ld_q _ 3 3 rfl, ld_m _ 3 3 rfl, ld_m _ 3 3 rfl]
    rfl
  · refine Eq.trans (congrFun ?_ x) (at_m (fun s => gL (wS _ s) (qS _ s) (kS _ s) (mS _ s) (mS _ s)) 2 2 rfl y x (by omega) (by omega) (by omega)).symm
    rw [ld_w _ 2 32 rfl, ld_k _ 2 8 rfl, ld_q _ 2 2 rfl, ld_m _ 2 2 rfl, ld_m _ 2 2 rfl]
    rfl
  · refine Eq.trans (congrFun ?_ x) (at_m (fun s => gL (wS _ s) (qS _ s) (kS _ s) (mS _ s) (mS _ s)) 1 1 rfl y x (by omega) (by omega) (by omega)).symm
    rw [ld_w _ 1 16 rfl, ld_k _ 1 4 rfl, ld_q _ 1 1 rfl, ld_m _ 1 1 rfl, ld_m _ 1 1 rfl]
    rfl
  · refine Eq.trans (congrFun ?_ x) (at_m (fun s => gL (wS _ s) (qS _ s) (kS _ s) (mS _ s) (mS _ s)) 0 0 rfl y x (by omega) (by omega) (by omega)).symm
    rw [ld_w _ 0 0 rfl, ld_k _ 0 0 rfl, ld_q _ 0 0 rfl, ld_m _ 0 0 rfl, ld_m _ 0 0 rfl]
    rfl

set_option maxHeartbeats 8000000 in
theorem C_a (t : Fin cfg0.N) (h0 : ¬t.val % 4 = 0) (h1 : t.val % 4 = 3) :
    (outsAt0 m c t.val t.isLt).2.2.2.2.2.2 = nA (iblk m c 7 t) (outsAt0 m c (t.val - 1) (Nat.lt_of_le_of_lt (Nat.sub_le _ _) t.isLt)).2.2.2.1 (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 := by
  rw [outsAt0_C m c t h0 h1]
  dsimp only
  generalize outsAt0 m c (t.val - 1) _ = P
  funext y
  frame_out
  canon_tiles x h
  all_goals simp only [read_unread_whole]
  · refine Eq.trans (congrFun ?_ x) (at_a (fun s => gA (wS _ s) (qS _ s) (kS _ s) (kS _ s) (mS _ s) (qS _ s)) 7 7 rfl y x (by omega) (by omega) (by omega)).symm
    rw [ld_w _ 7 112 rfl, ld_k _ 7 28 rfl, ld_q _ 7 7 rfl, ld_m _ 7 7 rfl, ld_k _ 7 28 rfl, ld_q _ 7 7 rfl]
    rfl
  · refine Eq.trans (congrFun ?_ x) (at_a (fun s => gA (wS _ s) (qS _ s) (kS _ s) (kS _ s) (mS _ s) (qS _ s)) 6 6 rfl y x (by omega) (by omega) (by omega)).symm
    rw [ld_w _ 6 96 rfl, ld_k _ 6 24 rfl, ld_q _ 6 6 rfl, ld_m _ 6 6 rfl, ld_k _ 6 24 rfl, ld_q _ 6 6 rfl]
    rfl
  · refine Eq.trans (congrFun ?_ x) (at_a (fun s => gA (wS _ s) (qS _ s) (kS _ s) (kS _ s) (mS _ s) (qS _ s)) 5 5 rfl y x (by omega) (by omega) (by omega)).symm
    rw [ld_w _ 5 80 rfl, ld_k _ 5 20 rfl, ld_q _ 5 5 rfl, ld_m _ 5 5 rfl, ld_k _ 5 20 rfl, ld_q _ 5 5 rfl]
    rfl
  · refine Eq.trans (congrFun ?_ x) (at_a (fun s => gA (wS _ s) (qS _ s) (kS _ s) (kS _ s) (mS _ s) (qS _ s)) 4 4 rfl y x (by omega) (by omega) (by omega)).symm
    rw [ld_w _ 4 64 rfl, ld_k _ 4 16 rfl, ld_q _ 4 4 rfl, ld_m _ 4 4 rfl, ld_k _ 4 16 rfl, ld_q _ 4 4 rfl]
    rfl
  · refine Eq.trans (congrFun ?_ x) (at_a (fun s => gA (wS _ s) (qS _ s) (kS _ s) (kS _ s) (mS _ s) (qS _ s)) 3 3 rfl y x (by omega) (by omega) (by omega)).symm
    rw [ld_w _ 3 48 rfl, ld_k _ 3 12 rfl, ld_q _ 3 3 rfl, ld_m _ 3 3 rfl, ld_k _ 3 12 rfl, ld_q _ 3 3 rfl]
    rfl
  · refine Eq.trans (congrFun ?_ x) (at_a (fun s => gA (wS _ s) (qS _ s) (kS _ s) (kS _ s) (mS _ s) (qS _ s)) 2 2 rfl y x (by omega) (by omega) (by omega)).symm
    rw [ld_w _ 2 32 rfl, ld_k _ 2 8 rfl, ld_q _ 2 2 rfl, ld_m _ 2 2 rfl, ld_k _ 2 8 rfl, ld_q _ 2 2 rfl]
    rfl
  · refine Eq.trans (congrFun ?_ x) (at_a (fun s => gA (wS _ s) (qS _ s) (kS _ s) (kS _ s) (mS _ s) (qS _ s)) 1 1 rfl y x (by omega) (by omega) (by omega)).symm
    rw [ld_w _ 1 16 rfl, ld_k _ 1 4 rfl, ld_q _ 1 1 rfl, ld_m _ 1 1 rfl, ld_k _ 1 4 rfl, ld_q _ 1 1 rfl]
    rfl
  · refine Eq.trans (congrFun ?_ x) (at_a (fun s => gA (wS _ s) (qS _ s) (kS _ s) (kS _ s) (mS _ s) (qS _ s)) 0 0 rfl y x (by omega) (by omega) (by omega)).symm
    rw [ld_w _ 0 0 rfl, ld_k _ 0 0 rfl, ld_q _ 0 0 rfl, ld_m _ 0 0 rfl, ld_k _ 0 0 rfl, ld_q _ 0 0 rfl]
    rfl

end Cert.KernelIdeal.Attn
-- ==== Proof.StF.lean ====
/-
  The last block of a batch's cache: what the kernel writes out, as functions of the scratch arrays after the block.
-/
module

public import proofs.«01_k».proof.Proof.Sub
public import proofs.«01_k».proof.Proof.Gen.KernelIdeal.Frame
public import Idealize.ShloMosaic.Lib.Pipeline.ValueKit
public import Idealize.ShloMosaic.Lib.Pipeline.ReadBack
public import Idealize.ShloMosaic.Lib.UnfoldOut

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable {F : FTy → Type} [FloatOps F]
section Fin

variable (q : Vec F S1x128x128 .bf16) (kn vn : Vec F S1x32x128 .bf16) (ks vs : Vec F S32x128 .f32) (vsr : Vec F S128x128 .f32)
  (M L : Vec F S8x32x128 .f32) (A : Vec F S8x32x256 .f32)

/-- The first 16 rows of each group. -/
def aM (X : Vec F S8x32x128 .f32) : Vec F S8x16x128 .f32 := View.ld X (Rect.unit (s := S8x32x128) ![0, 0, 0] ![8, 16, 128] inb_S8x32x128_S8x16x128_0_0_0)
/-- The last 16 rows of each group. -/
def bM (X : Vec F S8x32x128 .f32) : Vec F S8x16x128 .f32 := View.ld X (Rect.unit (s := S8x32x128) ![0, 16, 0] ![8, 16, 128] inb_S8x32x128_S8x16x128_0_16_0)
/-- The first 16 rows of each group, left half of the columns. -/
def aA : Vec F S8x16x128 .f32 := View.ld A (Rect.unit (s := S8x32x256) ![0, 0, 0] ![8, 16, 128] inb_S8x32x256_S8x16x128_0_0_0)
/-- The last 16 rows of each group, right half of the columns. -/
def bA : Vec F S8x16x128 .f32 := View.ld A (Rect.unit (s := S8x32x256) ![0, 16, 128] ![8, 16, 128] inb_S8x32x256_S8x16x128_0_16_128)

/-- The scores of the new token, a column. -/
def sNew : FVec F S128x1 .f32 := k0_pay20 (k0_pay16 kn ks ks) q
/-- The sum of all weights. -/
def lFin : FVec F S128x128 .f32 := k0_pay27 (sNew q kn ks) (k0_pay21 (aM M)) (bM M) (aM L) (bM L)
/-- The sum of all weighted values. -/
def aFin : FVec F S128x128 .f32 := k0_pay28 (k0_pay18 (k0_pay17 vn vs) vs) k0_pay19 (sNew q kn ks) (k0_pay21 (aM M)) (bM M) (aA A) (bA A) vsr
/-- The result. -/
def yFin : FVec F S1x128x128 .bf16 := k0_pay2 (lFin q kn ks M L) (aFin q kn vn ks vs vsr M A)

end Fin

variable (m : (ℓ : Loc nD τ sig) → Buf (Elt F) ℓ) (c : Dev nD)

theorem C_k (t : Fin cfg0.N) (h0 : ¬ t.val % 4 = 0) (h1 : t.val % 4 = 3) : (outsAt0 m c t.val t.isLt).2.1 = k0_pay14 (iblk m c 1 t) (iblk m c 5 t) := by
  rw [outsAt0_C m c t h0 h1]
  dsimp only
  funext y
  frame_out

theorem C_v (t : Fin cfg0.N) (h0 : ¬ t.val % 4 = 0) (h1 : t.val % 4 = 3) : (outsAt0 m c t.val t.isLt).2.2.1 = k0_pay15 (iblk m c 2 t) (iblk m c 6 t) := by
  rw [outsAt0_C m c t h0 h1]
  dsimp only
  funext y
  frame_out

theorem B_q (t : Fin cfg0.N) (h0 : ¬t.val % 4 = 0) (h1 : ¬t.val % 4 = 3) : (outsAt0 m c t.val t.isLt).2.2.2.1 = (outsAt0 m c (t.val - 1) (Nat.lt_of_le_of_lt (Nat.sub_le _ _) t.isLt)).2.2.2.1 := by
  rw [outsAt0_B m c t h0 h1]
  rfl

theorem C_q (t : Fin cfg0.N) (h0 : ¬ t.val % 4 = 0) (h1 : t.val % 4 = 3) : (outsAt0 m c t.val t.isLt).2.2.2.1 = (outsAt0 m c (t.val - 1) (Nat.lt_of_le_of_lt (Nat.sub_le _ _) t.isLt)).2.2.2.1 := by
  rw [outsAt0_C m c t h0 h1]
  rfl

end Cert.KernelIdeal.Attn
-- ==== Proof.Blk.lean ====
/-
  The blocks the kernel reads, at an index, as entries of the arguments.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (m : (ℓ : Loc nD τ sig) → Buf (Elt Ideal) ℓ) (c : Dev nD)

theorem t_lt (t : Fin cfg0.N) : t.val < 32 := lt_of_lt_of_eq t.isLt (show cfg0.N = 32 from N_0)

/-- The batch of a point. -/
def bt (t : Fin cfg0.N) : Fin 8 := ⟨t.val / 4, by have := t_lt t; omega⟩

theorem idxA : ∀ t : Fin cfg0.N, win0_0.index t = ![t.val / 4, 0, 0] ∧ win0_1.index t = ![t.val / 4, 0, 0] ∧ win0_2.index t = ![t.val / 4, 0, 0] :=
  (by decide +kernel : ∀ t : Fin grid0.N, _)

theorem idxB : ∀ t : Fin cfg0.N, win0_3.index t = ![t.val / 4, t.val % 4, 0, 0] ∧ win0_4.index t = ![t.val / 4, t.val % 4, 0, 0] :=
  (by decide +kernel : ∀ t : Fin grid0.N, _)

theorem idxC : ∀ t : Fin cfg0.N, win0_5.index t = ![0, 0] ∧ win0_6.index t = ![0, 0] ∧ win0_7.index t = ![0, 0] ∧ win0_8.index t = ![0, 0] :=
  (by decide +kernel : ∀ t : Fin grid0.N, _)

theorem reshape0_at (x : S8x1x16384.Idx → EReal) (b : Fin 8) (n d : Fin 128) :
    shapeCast S8x128x128 x shapeCasts_S8x1x16384_S8x128x128 (ix3 b n d) = x (ix3 b 0 ⟨n.val * 128 + d.val, by omega⟩) := by
  pointwise

theorem reshape1_at (x : S8x1x32x128.Idx → EReal) (b : Fin 8) (h : Fin 32) (d : Fin 128) :
    shapeCast S8x32x128 x shapeCasts_S8x1x32x128_S8x32x128 (ix3 b h d) = x (ix4 b 0 h d) := by
  pointwise

theorem iblk0_at (t : Fin cfg0.N) (n d : Fin 128) :
    iblk m c 0 t (ix3 0 n d) = m ((c : Thread nD τ).loc main_arg0) (ix3 (bt t) 0 ⟨n.val * 128 + d.val, by omega⟩) := by
  have h : V m c main_v0 = shapeCast S8x128x128 (m ((c : Thread nD τ).loc main_arg0)) shapeCasts_S8x1x16384_S8x128x128 := by
    show StableHlo.after _ _ _ = _
    simp only [List.flatten_cons, List.flatten_nil, List.append_nil, hostOps0]
    after_results_simp
    try rfl
  have h2 : iblk m c 0 t (ix3 0 n d) = V m c main_v0 (ix3 (bt t) n d) := by blk_ext [iblk, idxA t, bt]
  rw [h2, h]
  exact reshape0_at _ (bt t) n d

theorem iblk1_at (t : Fin cfg0.N) (h : Fin 32) (d : Fin 128) :
    iblk m c 1 t (ix3 0 h d) = m ((c : Thread nD τ).loc main_arg1) (ix4 (bt t) 0 h d) := by
  have e : V m c main_v1 = shapeCast S8x32x128 (m ((c : Thread nD τ).loc main_arg1)) shapeCasts_S8x1x32x128_S8x32x128 := by
    show StableHlo.after _ _ _ = _
    simp only [List.flatten_cons, List.flatten_nil, List.append_nil, hostOps0]
    after_results_simp
    try rfl
  have h2 : iblk m c 1 t (ix3 0 h d) = V m c main_v1 (ix3 (bt t) h d) := by blk_ext [iblk, idxA t, bt]
  rw [h2, e]
  exact reshape1_at _ (bt t) h d

theorem iblk2_at (t : Fin cfg0.N) (h : Fin 32) (d : Fin 128) :
    iblk m c 2 t (ix3 0 h d) = m ((c : Thread nD τ).loc main_arg2) (ix4 (bt t) 0 h d) := by
  have e : V m c main_v2 = shapeCast S8x32x128 (m ((c : Thread nD τ).loc main_arg2)) shapeCasts_S8x1x32x128_S8x32x128 := by
    show StableHlo.after _ _ _ = _
    simp only [List.flatten_cons, List.flatten_nil, List.append_nil, hostOps0]
    after_results_simp
    try rfl
  have h2 : iblk m c 2 t (ix3 0 h d) = V m c main_v2 (ix3 (bt t) h d) := by blk_ext [iblk, idxA t, bt]
  rw [h2, e]
  exact reshape1_at _ (bt t) h d

theorem iblk3_at (t : Fin cfg0.N) (s : Fin 1024) (h : Fin 32) (d : Fin 128) :
    iblk m c 3 t (ix4 0 s h d) = m ((c : Thread nD τ).loc main_arg3) (ix4 (bt t) ⟨1024 * (t.val % 4) + s.val, by omega⟩ h d) := by
  rw [← V_main_arg3 m c]
  blk_ext [iblk, idxB t, bt]

theorem iblk4_at (t : Fin cfg0.N) (s : Fin 1024) (h : Fin 32) (d : Fin 128) :
    iblk m c 4 t (ix4 0 s h d) = m ((c : Thread nD τ).loc main_arg5) (ix4 (bt t) ⟨1024 * (t.val % 4) + s.val, by omega⟩ h d) := by
  rw [← V_main_arg5 m c]
  blk_ext [iblk, idxB t, bt]

theorem iblk5_at (t : Fin cfg0.N) (h : Fin 32) (l : Fin 128) :
    iblk m c 5 t (ix2 h l) = m ((c : Thread nD τ).loc main_arg4) (ix1 h) := by
  have e : V m c main_v4 = broadcastInDim S32x128 ![0, 1] bcast_S32x1_S32x128_0_1 (broadcastInDim S32x1 ![0] bcast_S32_S32x1_0 (m ((c : Thread nD τ).loc main_arg4))) := by
    show StableHlo.after _ _ _ = _
    simp only [List.flatten_cons, List.flatten_nil, List.append_nil, hostOps0]
    after_results_simp
    try rfl
  have h2 : iblk m c 5 t (ix2 h l) = V m c main_v4 (ix2 h l) := by blk_ext [iblk, idxC t]
  rw [h2, e]
  generalize m ((c : Thread nD τ).loc main_arg4) = X
  pointwise

theorem iblk6_at (t : Fin cfg0.N) (h : Fin 32) (l : Fin 128) :
    iblk m c 6 t (ix2 h l) = m ((c : Thread nD τ).loc main_arg6) (ix1 h) := by
  have e : V m c main_v6 = broadcastInDim S32x128 ![0, 1] bcast_S32x1_S32x128_0_1 (broadcastInDim S32x1 ![0] bcast_S32_S32x1_0 (m ((c : Thread nD τ).loc main_arg6))) := by
    show StableHlo.after _ _ _ = _
    simp only [List.flatten_cons, List.flatten_nil, List.append_nil, hostOps0]
    after_results_simp
    try rfl
  have h2 : iblk m c 6 t (ix2 h l) = V m c main_v6 (ix2 h l) := by blk_ext [iblk, idxC t]
  rw [h2, e]
  generalize m ((c : Thread nD τ).loc main_arg6) = X
  pointwise

theorem iblk7_at (t : Fin cfg0.N) (n l : Fin 128) :
    iblk m c 7 t (ix2 n l) = m ((c : Thread nD τ).loc main_arg4) (ix1 ⟨n.val / 4, by omega⟩) := by
  have e : V m c main_v10 = broadcastInDim S128x128 ![0, 1] bcast_S128x1_S128x128_0_1 (broadcastInDim S128x1 ![0] bcast_S128_S128x1_0
      (shapeCast S128 (broadcastInDim S32x4 ![0] bcast_S32_S32x4_0 (m ((c : Thread nD τ).loc main_arg4))) shapeCasts_S32x4_S128)) := by
    show StableHlo.after _ _ _ = _
    simp only [List.flatten_cons, List.flatten_nil, List.append_nil, hostOps0]
    after_results_simp
    try rfl
  have h2 : iblk m c 7 t (ix2 n l) = V m c main_v10 (ix2 n l) := by blk_ext [iblk, idxC t]
  rw [h2, e]
  generalize m ((c : Thread nD τ).loc main_arg4) = X
  pointwise

theorem iblk8_at (t : Fin cfg0.N) (n l : Fin 128) :
    iblk m c 8 t (ix2 n l) = m ((c : Thread nD τ).loc main_arg6) (ix1 ⟨n.val / 4, by omega⟩) := by
  have e : V m c main_v14 = broadcastInDim S128x128 ![0, 1] bcast_S128x1_S128x128_0_1 (broadcastInDim S128x1 ![0] bcast_S128_S128x1_0
      (shapeCast S128 (broadcastInDim S32x4 ![0] bcast_S32_S32x4_0 (m ((c : Thread nD τ).loc main_arg6))) shapeCasts_S32x4_S128)) := by
    show StableHlo.after _ _ _ = _
    simp only [List.flatten_cons, List.flatten_nil, List.append_nil, hostOps0]
    after_results_simp
    try rfl
  have h2 : iblk m c 8 t (ix2 n l) = V m c main_v14 (ix2 n l) := by blk_ext [iblk, idxC t]
  rw [h2, e]
  generalize m ((c : Thread nD τ).loc main_arg6) = X
  pointwise

end Cert.KernelIdeal.Attn
-- ==== Proof.Scan.lean ====
/-
  The scratch arrays after each block of a run: the running maximum and sums of the batch's scores.
-/
module

public import proofs.«01_k».proof.Proof.Inv
public import proofs.«01_k».proof.Proof.StB
public import proofs.«01_k».proof.Proof.StC
public import proofs.«01_k».proof.Proof.StF
public import proofs.«01_k».proof.Proof.Blk

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable (m : (ℓ : Loc nD τ sig) → Buf (Elt Ideal) ℓ) (c : Dev nD)

/-- The queries of batch `b`. -/
def bq (b : Fin 8) (n d : Fin 128) : EReal := m ((c : Thread nD τ).loc main_arg0) (ix3 b 0 ⟨n.val * 128 + d.val, by omega⟩)
/-- The cached keys of batch `b`, by token. -/
def bk (b : Fin 8) (t : ℕ) (h : Fin 32) (d : Fin 128) : EReal :=
  if e : t < 4096 then m ((c : Thread nD τ).loc main_arg3) (ix4 b ⟨t, e⟩ h d) else 0
/-- The cached values of batch `b`, by token. -/
def bv (b : Fin 8) (t : ℕ) (h : Fin 32) (d : Fin 128) : EReal :=
  if e : t < 4096 then m ((c : Thread nD τ).loc main_arg5) (ix4 b ⟨t, e⟩ h d) else 0
/-- The key scales. -/
def kscale (h : Fin 32) : EReal := m ((c : Thread nD τ).loc main_arg4) (ix1 h)
/-- The value scales. -/
def vscale (h : Fin 32) : EReal := m ((c : Thread nD τ).loc main_arg6) (ix1 h)

/-- The scores of a row of batch `b`. -/
abbrev bS (b : Fin 8) (s : Fin 8) (r : Fin 32) : ℕ → Fin 2048 → EReal := SS (bq m c b) (bk m c b) (kscale m c) s r
/-- The values a column of batch `b` weighs. -/
abbrev bV (b : Fin 8) (s : Fin 8) (k : Fin 256) : ℕ → Fin 2048 → EReal := VS (bv m c b) s k

/-- The scratch arrays after `τ` blocks of batch `b`. -/
def Inv (b : Fin 8) (τ : ℕ) (mo lo : S8x32x128.Idx → EReal) (ao : S8x32x256.Idx → EReal) : Prop :=
  (∀ s r l, mo (ix3 s r l) = runMax (bS m c b s r) τ)
  ∧ (∀ s r l, lo (ix3 s r l) = runSum (bS m c b s r) (fun i u => bS m c b s r i (laneCol l u)) (fun _ _ => 1) τ)
  ∧ (∀ s r k, ao (ix3 s r k) = runSum (bS m c b s r) (bS m c b s r) (bV m c b s k) τ)

variable (hk0 : ∀ h, 0 ≤ kscale m c h) (hkt : ∀ h, kscale m c h ≠ ⊤)

include hk0 hkt in
theorem inv_step (t : Fin cfg0.N) (X0 : S1x128x128.Idx → EReal) (hX : ∀ n d, X0 (ix3 0 n d) = bq m c (bt t) n d)
    (mo lo : S8x32x128.Idx → EReal) (ao : S8x32x256.Idx → EReal) (h : Inv m c (bt t) (t.val % 4) mo lo ao) :
    Inv m c (bt t) (t.val % 4 + 1) (nM (F := Ideal) (iblk m c 7 t) (q2i (F := Ideal) X0) (iblk m c 3 t) mo)
      (nL (F := Ideal) (iblk m c 7 t) (q2i (F := Ideal) X0) (iblk m c 3 t) mo lo)
      (nA (F := Ideal) (iblk m c 7 t) (q2i (F := Ideal) X0) (iblk m c 3 t) (iblk m c 4 t) mo ao) := by
  obtain ⟨hm, hl, ha⟩ := h
  have hw : ∀ n l, (iblk m c 7 t : S128x128.Idx → EReal) (ix2 n l) = kscale m c (hd n) := fun n l => iblk7_at m c t n l
  have hK : ∀ (x : Fin 1024) h d, (iblk m c 3 t : S1x1024x32x128.Idx → EReal) (ix4 0 x h d) = bk m c (bt t) (1024 * (t.val % 4) + x.val) h d := by
    intro x h d
    refine (iblk3_at m c t x h d).trans ?_
    unfold bk
    rw [dif_pos (by omega)]
  have hV : ∀ (x : Fin 1024) h d, (iblk m c 4 t : S1x1024x32x128.Idx → EReal) (ix4 0 x h d) = bv m c (bt t) (1024 * (t.val % 4) + x.val) h d := by
    intro x h d
    refine (iblk4_at m c t x h d).trans ?_
    unfold bv
    rw [dif_pos (by omega)]
  refine ⟨fun s r l => ?_, fun s r l => ?_, fun s r k => ?_⟩
  · exact nM_eq (bq m c (bt t)) (bk m c (bt t)) (kscale m c) hk0 hkt (t.val % 4) X0 _ _ hX hw hK mo hm s r l
  · exact nL_eq (bq m c (bt t)) (bk m c (bt t)) (kscale m c) hk0 hkt (t.val % 4) X0 _ _ hX hw hK mo lo hm hl s r l
  · exact nA_eq (bq m c (bt t)) (bk m c (bt t)) (bv m c (bt t)) (kscale m c) hk0 hkt (t.val % 4) X0 _ _ _ hX hw hK hV mo ao hm ha s r k

theorem inv_zero (b : Fin 8) : Inv m c b 0 (k0_pay9 (F := Ideal)) (k0_pay10 (F := Ideal)) (k0_pay29 (F := Ideal) (k0_pay11 (F := Ideal))) := by
  refine ⟨fun s r l => ?_, fun s r l => ?_, fun s r k => ?_⟩
  · have e : k0_pay9 (F := Ideal) (ix3 s r l) = ⊥ := by
      unfold k0_pay9
      pointwise
      exact negInf
    exact e
  · have e : k0_pay10 (F := Ideal) (ix3 s r l) = 0 := by
      unfold k0_pay10
      pointwise
    exact e
  · have e : k0_pay29 (F := Ideal) (k0_pay11 (F := Ideal)) (ix3 s r k) = 0 := by
      unfold k0_pay29 k0_pay11
      pointwise
    exact e

/-- What holds after point `t`: the paired queries are the batch's, the rest is as after `t % 4 + 1` blocks. -/
def At (t : Fin cfg0.N) : Prop :=
  (∃ X0 : S1x128x128.Idx → EReal, (∀ n d, X0 (ix3 0 n d) = bq m c (bt t) n d) ∧ (outsAt0 m c t.val t.isLt).2.2.2.1 = q2i (F := Ideal) X0)
  ∧ Inv m c (bt t) (t.val % 4 + 1) (outsAt0 m c t.val t.isLt).2.2.2.2.1 (outsAt0 m c t.val t.isLt).2.2.2.2.2.1 (outsAt0 m c t.val t.isLt).2.2.2.2.2.2

include hk0 hkt in
theorem at_all : ∀ (n : ℕ) (h : n < cfg0.N), At m c ⟨n, h⟩
  | 0, h => by
    refine ⟨⟨iblk m c 0 ⟨0, h⟩, iblk0_at m c ⟨0, h⟩, A_q m c ⟨0, h⟩ rfl (by simp)⟩, ?_⟩
    rw [A_m m c ⟨0, h⟩ rfl (by simp), A_l m c ⟨0, h⟩ rfl (by simp), A_a m c ⟨0, h⟩ rfl (by simp)]
    exact inv_step m c hk0 hkt ⟨0, h⟩ _ (iblk0_at m c ⟨0, h⟩) _ _ _ (inv_zero m c _)
  | n + 1, h => by
    by_cases h0 : (n + 1) % 4 = 0
    · have h1 : ¬ (n + 1) % 4 = 3 := by omega
      refine ⟨⟨iblk m c 0 ⟨n + 1, h⟩, iblk0_at m c ⟨n + 1, h⟩, A_q m c ⟨n + 1, h⟩ h0 h1⟩, ?_⟩
      rw [A_m m c ⟨n + 1, h⟩ h0 h1, A_l m c ⟨n + 1, h⟩ h0 h1, A_a m c ⟨n + 1, h⟩ h0 h1]
      refine inv_step m c hk0 hkt ⟨n + 1, h⟩ _ (iblk0_at m c ⟨n + 1, h⟩) _ _ _ ?_
      rw [show (⟨n + 1, h⟩ : Fin cfg0.N).val % 4 = 0 from h0]
      exact inv_zero m c _
    · have ih := at_all n (Nat.lt_of_succ_lt h)
      have eb : bt ⟨n, Nat.lt_of_succ_lt h⟩ = bt ⟨n + 1, h⟩ := Fin.ext (by show n / 4 = (n + 1) / 4; omega)
      have eτ : (⟨n, Nat.lt_of_succ_lt h⟩ : Fin cfg0.N).val % 4 + 1 = (⟨n + 1, h⟩ : Fin cfg0.N).val % 4 := by
        show n % 4 + 1 = (n + 1) % 4; omega
      obtain ⟨⟨X0, hX, hq⟩, hi⟩ := ih
      rw [eb] at hX hi
      rw [eτ] at hi
      have step := inv_step m c hk0 hkt ⟨n + 1, h⟩ X0 hX _ _ _ hi
      have hq' : (outsAt0 m c ((⟨n + 1, h⟩ : Fin cfg0.N).val - 1) (Nat.lt_of_le_of_lt (Nat.sub_le _ _) (⟨n + 1, h⟩ : Fin cfg0.N).isLt)).2.2.2.1 = q2i (F := Ideal) X0 := hq
      by_cases h1 : (n + 1) % 4 = 3
      · refine ⟨⟨X0, hX, (C_q m c ⟨n + 1, h⟩ h0 h1).trans hq'⟩, ?_⟩
        rw [C_m m c ⟨n + 1, h⟩ h0 h1, C_l m c ⟨n + 1, h⟩ h0 h1, C_a m c ⟨n + 1, h⟩ h0 h1, hq']
        exact step
      · refine ⟨⟨X0, hX, (B_q m c ⟨n + 1, h⟩ h0 h1).trans hq'⟩, ?_⟩
        rw [B_m m c ⟨n + 1, h⟩ h0 h1, B_l m c ⟨n + 1, h⟩ h0 h1, B_a m c ⟨n + 1, h⟩ h0 h1, hq']
        exact step

end Cert.KernelIdeal.Attn
-- ==== Proof.FinAt.lean ====
/-
  The elements of what the kernel writes out, over the ideal reals, from the scratch arrays after a batch's last block.
-/
module

public import proofs.«01_k».proof.Proof.StF
public import proofs.«01_k».proof.Proof.Inv

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

/-! ## The new token's codes -/

theorem pay12_at (x : S1x32x128.Idx → EReal) (s : S32x128.Idx → EReal) (h : Fin 32) (d : Fin 128) :
    k0_pay12 (F := Ideal) x s (ix2 h d) = codes (x (ix3 0 h d)) (s (ix2 h d)) := by
  unfold k0_pay12
  pointwise
  rfl

theorem pay13_at (x : S1x32x128.Idx → EReal) (s : S32x128.Idx → EReal) (h : Fin 32) (d : Fin 128) :
    k0_pay13 (F := Ideal) x s (ix2 h d) = codes (x (ix3 0 h d)) (s (ix2 h d)) := by
  unfold k0_pay13
  pointwise
  rfl

theorem pay14_at (x : S1x32x128.Idx → EReal) (s : S32x128.Idx → EReal) (h : Fin 32) (d : Fin 128) :
    k0_pay14 (F := Ideal) x s (ix3 0 h d) = codes (x (ix3 0 h d)) (s (ix2 h d)) := by
  rw [← pay12_at x s h d]
  unfold k0_pay14
  generalize k0_pay12 (F := Ideal) x s = Y
  pointwise

theorem pay15_at (x : S1x32x128.Idx → EReal) (s : S32x128.Idx → EReal) (h : Fin 32) (d : Fin 128) :
    k0_pay15 (F := Ideal) x s (ix3 0 h d) = codes (x (ix3 0 h d)) (s (ix2 h d)) := by
  rw [← pay13_at x s h d]
  unfold k0_pay15
  generalize k0_pay13 (F := Ideal) x s = Y
  pointwise

theorem pay16_at (x : S1x32x128.Idx → EReal) (s : S32x128.Idx → EReal) (h : Fin 32) (d : Fin 128) :
    k0_pay16 (F := Ideal) x s s (ix2 h d) = codes (x (ix3 0 h d)) (s (ix2 h d)) * s (ix2 h d) := by
  rw [← pay12_at x s h d]
  unfold k0_pay16
  generalize k0_pay12 (F := Ideal) x s = Y
  pointwise

theorem pay18_at (x : S1x32x128.Idx → EReal) (s : S32x128.Idx → EReal) (h : Fin 32) (d : Fin 128) :
    k0_pay18 (F := Ideal) (k0_pay17 (F := Ideal) x s) s (ix2 h d) = codes (x (ix3 0 h d)) (s (ix2 h d)) * s (ix2 h d) := by
  rw [← pay13_at x s h d]
  unfold k0_pay18 k0_pay17
  generalize k0_pay13 (F := Ideal) x s = Y
  pointwise

/-! ## The new token's scores -/

theorem pay19_at : ∀ (n : Fin 128) (h : Fin 32), k0_pay19 (ix2 n h) = if n.val / 4 = h.val then 1 else 0 := by
  decide +kernel

theorem sup_one (n : Fin 128) (f : Fin 32 → EReal) :
    (Finset.univ.sup fun h : Fin 32 => if n.val / 4 = h.val then f h else ⊥) = f (hd n) := by
  refine le_antisymm (Finset.sup_le fun h _ => ?_) ?_
  · split
    case isTrue e => rw [show h = hd n from Fin.ext e.symm]
    case isFalse => exact bot_le
  · refine le_trans ?_ (Finset.le_sup (Finset.mem_univ (hd n)))
    rw [if_pos rfl]

theorem sum_one (n : Fin 128) (f : Fin 32 → EReal) :
    (Finset.univ.sum fun h : Fin 32 => if n.val / 4 = h.val then f h else 0) = f (hd n) := by
  rw [Finset.sum_eq_single (hd n)]
  · rw [if_pos rfl]
  · intro h _ hn
    rw [if_neg (fun e => hn (Fin.ext e.symm))]
  · intro h; exact absurd (Finset.mem_univ _) h

theorem pick (n : Fin 128) (h : Fin 32) (a b : EReal) :
    Scalar.select (k0_pay19 (ix2 n h)) a b = if n.val / 4 = h.val then a else b := by
  rw [pay19_at]
  by_cases e : n.val / 4 = h.val
  · rw [if_pos e, if_pos e]; rfl
  · rw [if_neg e, if_neg e]; rfl

theorem pay20_at (k : S32x128.Idx → EReal) (q : S1x128x128.Idx → EReal) (n : Fin 128) :
    k0_pay20 (F := Ideal) k q (ix2 n 0) = (∑ d : Fin 128, q (ix3 0 n d) * k (ix2 (hd n) d)) * SM := by
  unfold k0_pay20
  generalize hw : k0_pay19 = w
  pointwise
  subst hw
  simp only [pick, negInf]
  exact sup_one n fun x => (∑ d : Fin 128, q (ix3 0 n d) * k (ix2 x d)) * SM

/-! ## The weights -/

section

variable (sn : S128x1.Idx → EReal) (m1 : S128x128.Idx → EReal) (m2 : S8x16x128.Idx → EReal)

theorem flat_at (x : S8x16x128.Idx → EReal) (n d : Fin 128) :
    shapeCast S128x128 x shapeCasts_S8x16x128_S128x128 (ix2 n d) = x (ix3 ⟨n.val / 16, by omega⟩ ⟨n.val % 16, by omega⟩ d) := by
  pointwise

theorem pay21_at (x : S8x16x128.Idx → EReal) (n d : Fin 128) :
    k0_pay21 (F := Ideal) x (ix2 n d) = x (ix3 ⟨n.val / 16, by omega⟩ ⟨n.val % 16, by omega⟩ d) := flat_at x n d

theorem pay22_at (x : S8x16x128.Idx → EReal) (n d : Fin 128) :
    k0_pay22 (F := Ideal) x (ix2 n d) = x (ix3 ⟨n.val / 16, by omega⟩ ⟨n.val % 16, by omega⟩ d) := flat_at x n d

theorem pay23_at (n d : Fin 128) :
    k0_pay23 (F := Ideal) sn m1 m2 (ix2 n d) = max (max (m1 (ix2 n d)) (m2 (ix3 ⟨n.val / 16, by omega⟩ ⟨n.val % 16, by omega⟩ d))) (sn (ix2 n 0)) := by
  rw [← pay22_at m2]
  unfold k0_pay23
  generalize k0_pay22 (F := Ideal) m2 = Y
  pointwise

theorem pay24_at (n d : Fin 128) :
    k0_pay24 (F := Ideal) sn m1 m2 (ix2 n d) = Ideal.exp (m1 (ix2 n d) - k0_pay23 (F := Ideal) sn m1 m2 (ix2 n d)) := by
  unfold k0_pay24
  generalize k0_pay23 (F := Ideal) sn m1 m2 = Y
  pointwise

theorem pay25_at (n d : Fin 128) :
    k0_pay25 (F := Ideal) sn m1 m2 (ix2 n d) = Ideal.exp (m2 (ix3 ⟨n.val / 16, by omega⟩ ⟨n.val % 16, by omega⟩ d) - k0_pay23 (F := Ideal) sn m1 m2 (ix2 n d)) := by
  rw [← pay22_at m2]
  unfold k0_pay25
  generalize k0_pay23 (F := Ideal) sn m1 m2 = Y
  generalize k0_pay22 (F := Ideal) m2 = Z
  pointwise

theorem pay26_at (n d : Fin 128) :
    k0_pay26 (F := Ideal) sn m1 m2 (ix2 n d) = Ideal.exp (sn (ix2 n 0) - k0_pay23 (F := Ideal) sn m1 m2 (ix2 n d)) := by
  unfold k0_pay26
  generalize k0_pay23 (F := Ideal) sn m1 m2 = Y
  pointwise

theorem pay27_at (la lb : S8x16x128.Idx → EReal) (n d : Fin 128) :
    k0_pay27 (F := Ideal) sn m1 m2 la lb (ix2 n d)
      = (Finset.univ.sum fun l : Fin 128 => k0_pay24 (F := Ideal) sn m1 m2 (ix2 n l) * la (ix3 ⟨n.val / 16, by omega⟩ ⟨n.val % 16, by omega⟩ l)
          + k0_pay25 (F := Ideal) sn m1 m2 (ix2 n l) * lb (ix3 ⟨n.val / 16, by omega⟩ ⟨n.val % 16, by omega⟩ l))
        + k0_pay26 (F := Ideal) sn m1 m2 (ix2 n d) := by
  simp only [← flat_at]
  unfold k0_pay27
  generalize k0_pay24 (F := Ideal) sn m1 m2 = Y1
  generalize k0_pay25 (F := Ideal) sn m1 m2 = Y2
  generalize k0_pay26 (F := Ideal) sn m1 m2 = Y3
  generalize shapeCast S128x128 la shapeCasts_S8x16x128_S128x128 = Z1
  generalize shapeCast S128x128 lb shapeCasts_S8x16x128_S128x128 = Z2
  pointwise

theorem pay28_at (vn : S32x128.Idx → EReal) (aa ab : S8x16x128.Idx → EReal) (vsr : S128x128.Idx → EReal) (n d : Fin 128) :
    k0_pay28 (F := Ideal) vn k0_pay19 sn m1 m2 aa ab vsr (ix2 n d)
      = (k0_pay24 (F := Ideal) sn m1 m2 (ix2 n d) * aa (ix3 ⟨n.val / 16, by omega⟩ ⟨n.val % 16, by omega⟩ d)
          + k0_pay25 (F := Ideal) sn m1 m2 (ix2 n d) * ab (ix3 ⟨n.val / 16, by omega⟩ ⟨n.val % 16, by omega⟩ d)) * vsr (ix2 n d)
        + k0_pay26 (F := Ideal) sn m1 m2 (ix2 n ⟨n.val / 4, by omega⟩) * vn (ix2 (hd n) d) := by
  simp only [← flat_at]
  unfold k0_pay28
  generalize k0_pay24 (F := Ideal) sn m1 m2 = Y1
  generalize k0_pay25 (F := Ideal) sn m1 m2 = Y2
  generalize k0_pay26 (F := Ideal) sn m1 m2 = Y3
  generalize shapeCast S128x128 aa shapeCasts_S8x16x128_S128x128 = Z1
  generalize shapeCast S128x128 ab shapeCasts_S8x16x128_S128x128 = Z2
  generalize hw : k0_pay19 = w
  pointwise
  subst hw
  simp only [pick]
  exact congrArg₂ (fun a b : EReal => a + b) rfl (sum_one n fun x => Y3 (ix2 n ⟨x.val, by omega⟩) * vn (ix2 x d))

theorem pay2_at (l a : S128x128.Idx → EReal) (n d : Fin 128) :
    k0_pay2 (F := Ideal) l a (ix3 0 n d) = Ideal.div (a (ix2 n d)) (l (ix2 n d)) := by
  unfold k0_pay2
  pointwise

end

end Cert.KernelIdeal.Attn
-- ==== Proof.Out.lean ====
/-
  What the kernel writes out at a batch's last block: the mathematics of the statement.
-/
module

public import proofs.«01_k».proof.Proof.Scan
public import proofs.«01_k».proof.Proof.FinAt

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

theorem aM_at (X : S8x32x128.Idx → EReal) (s : Fin 8) (r : Fin 16) (l : Fin 128) :
    aM (F := Ideal) X (ix3 s r l) = X (ix3 s ⟨r.val, by omega⟩ l) := by
  unfold aM
  refine congrArg X (funext fun a => Fin.ext ?_)
  match a with
  | ⟨0, _⟩ => show 0 + 1 * s.val = s.val; omega
  | ⟨1, _⟩ => show 0 + 1 * r.val = r.val; omega
  | ⟨2, _⟩ => show 0 + 1 * l.val = l.val; omega

section

variable (qq : Fin 128 → Fin 128 → EReal) (KK VV : ℕ → Fin 32 → Fin 128 → EReal) (ks vs : Fin 32 → EReal)
  (kn vn : Fin 32 → Fin 128 → EReal)
variable (hv0 : ∀ h, 0 ≤ vs h) (hvt : ∀ h, vs h ≠ ⊤)
variable (M L : S8x32x128.Idx → EReal) (A : S8x32x256.Idx → EReal)
  (hM : ∀ s r l, M (ix3 s r l) = runMax (SS qq KK ks s r) 4)
  (hL : ∀ s r l, L (ix3 s r l) = runSum (SS qq KK ks s r) (fun i u => SS qq KK ks s r i (laneCol l u)) (fun _ _ => 1) 4)
  (hA : ∀ s r k, A (ix3 s r k) = runSum (SS qq KK ks s r) (SS qq KK ks s r) (VS VV s k) 4)

theorem SS_lo (n : Fin 128) (i : ℕ) (c : Fin 2048) :
    SS qq KK ks ⟨n.val / 16, by omega⟩ ⟨n.val % 16, by omega⟩ i c
      = if c.val % 4 = n.val % 16 / 4 then sN qq KK ks n (1024 * i + c.val / 4) else ⊥ := by
  have e1 : rowN ⟨n.val / 16, by omega⟩ ⟨n.val % 16, by omega⟩ = n := Fin.ext (by show 16 * (n.val / 16) + n.val % 16 % 16 = n.val; omega)
  have e2 : n.val % 16 % 16 = n.val % 16 := by omega
  have e3 : 1024 * i + 512 * (n.val % 16 / 16) + c.val / 4 = 1024 * i + c.val / 4 := by omega
  unfold SS
  rw [e1]
  simp only [e2, e3]

theorem SS_hi (n : Fin 128) (i : ℕ) (c : Fin 2048) :
    SS qq KK ks ⟨n.val / 16, by omega⟩ ⟨16 + n.val % 16, by omega⟩ i c
      = if c.val % 4 = n.val % 16 / 4 then sN qq KK ks n (1024 * i + 512 + c.val / 4) else ⊥ := by
  have e1 : rowN ⟨n.val / 16, by omega⟩ ⟨16 + n.val % 16, by omega⟩ = n := Fin.ext (by show 16 * (n.val / 16) + (16 + n.val % 16) % 16 = n.val; omega)
  have e2 : (16 + n.val % 16) % 16 = n.val % 16 := by omega
  have e3 : 1024 * i + 512 * ((16 + n.val % 16) / 16) + c.val / 4 = 1024 * i + 512 + c.val / 4 := by omega
  unfold SS
  rw [e1]
  simp only [e2, e3]

theorem VS_lo (n d : Fin 128) (i : ℕ) (c : Fin 2048) (h : c.val % 4 = n.val % 16 / 4) :
    VS VV ⟨n.val / 16, by omega⟩ ⟨d.val, by omega⟩ i c = VV (1024 * i + c.val / 4) (hd n) d := by
  have e1 : (⟨4 * (n.val / 16) + c.val % 4, by omega⟩ : Fin 32) = hd n := Fin.ext (by show 4 * (n.val / 16) + c.val % 4 = n.val / 4; omega)
  have e2 : (⟨d.val % 128, by omega⟩ : Fin 128) = d := Fin.ext (by show d.val % 128 = d.val; omega)
  have e3 : 1024 * i + 512 * (d.val / 128) + c.val / 4 = 1024 * i + c.val / 4 := by omega
  unfold VS
  simp only [e1, e2, e3]

theorem VS_hi (n d : Fin 128) (i : ℕ) (c : Fin 2048) (h : c.val % 4 = n.val % 16 / 4) :
    VS VV ⟨n.val / 16, by omega⟩ ⟨128 + d.val, by omega⟩ i c = VV (1024 * i + 512 + c.val / 4) (hd n) d := by
  have e1 : (⟨4 * (n.val / 16) + c.val % 4, by omega⟩ : Fin 32) = hd n := Fin.ext (by show 4 * (n.val / 16) + c.val % 4 = n.val / 4; omega)
  have e2 : (⟨(128 + d.val) % 128, by omega⟩ : Fin 128) = d := Fin.ext (by show (128 + d.val) % 128 = d.val; omega)
  have e3 : 1024 * i + 512 * ((128 + d.val) / 128) + c.val / 4 = 1024 * i + 512 + c.val / 4 := by omega
  unfold VS
  simp only [e1, e2, e3]

/-- The running maximum of the first halves. -/
abbrev mLo (n : Fin 128) : EReal := runMax (SS qq KK ks ⟨n.val / 16, by omega⟩ ⟨n.val % 16, by omega⟩) 4
/-- The running maximum of the second halves. -/
abbrev mHi (n : Fin 128) : EReal := runMax (SS qq KK ks ⟨n.val / 16, by omega⟩ ⟨16 + n.val % 16, by omega⟩) 4
/-- The new token's score. -/
abbrev s1 (n : Fin 128) : EReal := score (qq n) (kn (hd n)) (ks (hd n))
/-- The largest score. -/
abbrev mTop (n : Fin 128) : EReal := top (fun t => sN qq KK ks n t.val) (s1 qq ks kn n)

theorem top_eq (n : Fin 128) : max (max (mLo qq KK ks n) (mHi qq KK ks n)) (s1 qq ks kn n) = mTop qq KK ks kn n := by
  rw [join_max (j := n.val % 16 / 4) (by omega) (s := sN qq KK ks n) (SS_lo qq KK ks n) (SS_hi qq KK ks n)]
  rfl

theorem lo_le (n : Fin 128) : mLo qq KK ks n ≤ mTop qq KK ks kn n := by
  rw [← top_eq]; exact (le_max_left _ _).trans (le_max_left _ _)

theorem hi_le (n : Fin 128) : mHi qq KK ks n ≤ mTop qq KK ks kn n := by
  rw [← top_eq]; exact (le_max_right _ _).trans (le_max_left _ _)

variable (q : S1x128x128.Idx → EReal) (xk xv : S1x32x128.Idx → EReal) (xks xvs : S32x128.Idx → EReal) (xvr : S128x128.Idx → EReal)
  (hq : ∀ n d, q (ix3 0 n d) = qq n d)
  (hkn : ∀ h d, codes (xk (ix3 0 h d)) (xks (ix2 h d)) = kn h d) (hks : ∀ h d, xks (ix2 h d) = ks h)
  (hvn : ∀ h d, codes (xv (ix3 0 h d)) (xvs (ix2 h d)) = vn h d) (hvs : ∀ h d, xvs (ix2 h d) = vs h)
  (hvr : ∀ n d, xvr (ix2 n d) = vs (hd n))

include hq hkn hks in
theorem sNew_eq (n : Fin 128) : sNew (F := Ideal) q xk xks (ix2 n 0) = s1 qq ks kn n := by
  refine (pay20_at _ q n).trans ?_
  simp only [pay16_at, hkn, hq]
  simp only [hks]
  rfl

include hM in
theorem mA_eq (n l : Fin 128) : k0_pay21 (F := Ideal) (aM (F := Ideal) M) (ix2 n l) = mLo qq KK ks n := by
  rw [pay21_at, aM_at]
  exact hM _ _ _

theorem bM_at (X : S8x32x128.Idx → EReal) (s : Fin 8) (r : Fin 16) (l : Fin 128) :
    bM (F := Ideal) X (ix3 s r l) = X (ix3 s ⟨16 + r.val, by omega⟩ l) := by
  unfold bM
  refine congrArg X (funext fun a => Fin.ext ?_)
  match a with
  | ⟨0, _⟩ => show 0 + 1 * s.val = s.val; omega
  | ⟨1, _⟩ => show 16 + 1 * r.val = 16 + r.val; omega
  | ⟨2, _⟩ => show 0 + 1 * l.val = l.val; omega

theorem aA_at (X : S8x32x256.Idx → EReal) (s : Fin 8) (r : Fin 16) (l : Fin 128) :
    aA (F := Ideal) X (ix3 s r l) = X (ix3 s ⟨r.val, by omega⟩ ⟨l.val, by omega⟩) := by
  unfold aA
  refine congrArg X (funext fun a => Fin.ext ?_)
  match a with
  | ⟨0, _⟩ => show 0 + 1 * s.val = s.val; omega
  | ⟨1, _⟩ => show 0 + 1 * r.val = r.val; omega
  | ⟨2, _⟩ => show 0 + 1 * l.val = l.val; omega

theorem bA_at (X : S8x32x256.Idx → EReal) (s : Fin 8) (r : Fin 16) (l : Fin 128) :
    bA (F := Ideal) X (ix3 s r l) = X (ix3 s ⟨16 + r.val, by omega⟩ ⟨128 + l.val, by omega⟩) := by
  unfold bA
  refine congrArg X (funext fun a => Fin.ext ?_)
  match a with
  | ⟨0, _⟩ => show 0 + 1 * s.val = s.val; omega
  | ⟨1, _⟩ => show 16 + 1 * r.val = 16 + r.val; omega
  | ⟨2, _⟩ => show 128 + 1 * l.val = 128 + l.val; omega

include hM hq hkn hks in
theorem mFin_eq (n l : Fin 128) :
    k0_pay23 (F := Ideal) (sNew (F := Ideal) q xk xks) (k0_pay21 (F := Ideal) (aM (F := Ideal) M)) (bM (F := Ideal) M) (ix2 n l)
      = mTop qq KK ks kn n := by
  rw [pay23_at, mA_eq qq KK ks M hM, sNew_eq qq ks kn q xk xks hq hkn hks, bM_at, hM]
  exact top_eq qq KK ks kn n

include hM hL hq hkn hks in
theorem lFin_eq (n d : Fin 128) :
    lFin (F := Ideal) q xk xks M L (ix2 n d)
      = (Finset.univ.sum fun t : Fin 4096 => Ideal.exp (sN qq KK ks n t.val - mTop qq KK ks kn n))
        + Ideal.exp (s1 qq ks kn n - mTop qq KK ks kn n) := by
  refine (pay27_at _ _ _ _ _ n d).trans ?_
  rw [pay26_at, sNew_eq qq ks kn q xk xks hq hkn hks, mFin_eq qq KK ks kn M hM q xk xks hq hkn hks]
  refine congrArg (· + Ideal.exp (s1 qq ks kn n - mTop qq KK ks kn n)) ?_
  rw [← join_lanes (j := n.val % 16 / 4) (by omega) (s := sN qq KK ks n) (SS_lo qq KK ks n) (SS_hi qq KK ks n)
    (lo_le qq KK ks kn n) (hi_le qq KK ks kn n)]
  refine Finset.sum_congr rfl fun l _ => ?_
  rw [pay24_at, pay25_at, mFin_eq qq KK ks kn M hM q xk xks hq hkn hks, mA_eq qq KK ks M hM, bM_at, aM_at, bM_at, hM, hL, hL]

include hv0 hvt hM hA hq hkn hks hvn hvs hvr in
theorem aFin_eq (n d : Fin 128) :
    aFin (F := Ideal) q xk xv xks xvs xvr M A (ix2 n d)
      = (Finset.univ.sum fun t : Fin 4096 => Ideal.exp (sN qq KK ks n t.val - mTop qq KK ks kn n) * (VV t.val (hd n) d * vs (hd n)))
        + Ideal.exp (s1 qq ks kn n - mTop qq KK ks kn n) * (vn (hd n) d * vs (hd n)) := by
  refine (pay28_at _ _ _ _ _ _ _ n d).trans ?_
  rw [pay26_at, sNew_eq qq ks kn q xk xks hq hkn hks, mFin_eq qq KK ks kn M hM q xk xks hq hkn hks, pay18_at, hvn, hvs, hvr]
  refine congrArg (· + Ideal.exp (s1 qq ks kn n - mTop qq KK ks kn n) * (vn (hd n) d * vs (hd n))) ?_
  simp only [← mul_assoc]
  rw [← sum_mul _ _ (hv0 _) (hvt _)]
  refine congrArg (· * vs (hd n)) ?_
  rw [← join_sum (j := n.val % 16 / 4) (by omega) (s := sN qq KK ks n) (v := fun t => VV t (hd n) d) (SS_lo qq KK ks n) (SS_hi qq KK ks n)
    (fun i _ c h => VS_lo VV n d i c h) (fun i _ c h => VS_hi VV n d i c h)
    (lo_le qq KK ks kn n) (hi_le qq KK ks kn n)]
  rw [pay24_at, pay25_at, mFin_eq qq KK ks kn M hM q xk xks hq hkn hks, mA_eq qq KK ks M hM, bM_at, aA_at, bA_at, hM, hA, hA]

include hv0 hvt hM hL hA hq hkn hks hvn hvs hvr in
theorem yFin_eq (n d : Fin 128) :
    yFin (F := Ideal) q xk xv xks xvs xvr M L A (ix3 0 n d)
      = attn (qq n) (fun t => KK t.val (hd n)) (fun t => VV t.val (hd n)) (kn (hd n)) (vn (hd n)) (ks (hd n)) (vs (hd n)) d := by
  refine (pay2_at _ _ n d).trans ?_
  rw [lFin_eq qq KK ks kn M L hM hL q xk xks hq hkn hks,
    aFin_eq qq KK VV ks vs kn vn hv0 hvt M A hM hA q xk xv xks xvs xvr hq hkn hks hvn hvs hvr]
  rfl

end

end Cert.KernelIdeal.Attn
-- ==== Proof.StY.lean ====
/-
  The last block of a batch's cache: the result it writes, from the scratch arrays after it.
-/
module

public import proofs.«01_k».proof.Proof.StF
public import proofs.«01_k».proof.Proof.Gen.KernelIdeal.Frame
public import Idealize.ShloMosaic.Lib.Pipeline.ValueKit
public import Idealize.ShloMosaic.Lib.Pipeline.ReadBack
public import Idealize.ShloMosaic.Lib.UnfoldOut

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable {F : FTy → Type} [FloatOps F]
variable (m : (ℓ : Loc nD τ sig) → Buf (Elt F) ℓ) (c : Dev nD)

set_option maxHeartbeats 8000000 in
theorem C_y (t : Fin cfg0.N) (h0 : ¬ t.val % 4 = 0) (h1 : t.val % 4 = 3) :
    (outsAt0 m c t.val t.isLt).1 = yFin (iblk m c 0 t) (iblk m c 1 t) (iblk m c 2 t) (iblk m c 5 t) (iblk m c 6 t) (iblk m c 8 t)
      (outsAt0 m c t.val t.isLt).2.2.2.2.1 (outsAt0 m c t.val t.isLt).2.2.2.2.2.1 (outsAt0 m c t.val t.isLt).2.2.2.2.2.2 := by
  rw [outsAt0_C m c t h0 h1]
  dsimp only
  generalize outsAt0 m c (t.val - 1) _ = P
  funext y
  frame_out
  simp only [View.readCov_eq_canon']
  rfl

end Cert.KernelIdeal.Attn
-- ==== Proof.Final.lean ====
/-
  The kernel's result arrays as the mathematics of the arguments, and the precondition read at an element.
-/
module

public import proofs.«01_k».proof.Proof.Out
public import proofs.«01_k».proof.Proof.StY
public import proofs.«01_k».proof.Proof.Gen.KernelIdeal.Value
public import proofs.«01_k».proof.Pre_usable_scales

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Cert.Softmax

variable (m : (ℓ : Loc nD τ sig) → Buf (Elt Ideal) ℓ) (c : Dev nD)

theorem lastPt (b : Fin 8) : 4 * b.val + 3 < cfg0.N := lt_of_lt_of_eq (by omega) (show cfg0.N = 32 from N_0).symm

/-- The point that writes batch `b`'s blocks back. -/
def lp (b : Fin 8) : Fin cfg0.N := ⟨4 * b.val + 3, lastPt b⟩

theorem bt_lp (b : Fin 8) : bt (lp b) = b := Fin.ext (by show (4 * b.val + 3) / 4 = b.val; omega)

theorem G9_at (b : Fin 8) (n d : Fin 128) :
    Value.G9 m c (ix3 b n d) = (outsAt0 m c (lp b).val (lp b).isLt).1 (ix3 0 n d) := by
  have e : Value.pt9Of (ix3 b n d) = 4 * b.val + 3 := by
    show 4 * (1 * (b.val / 1 - 0) + 1 * (n.val / 128 - 0) + 1 * (d.val / 128 - 0)) + 3 = _
    omega
  have hl : Value.loc9Of (ix3 b n d) = ix3 0 n d := by
    funext a
    match a with
    | ⟨0, _⟩ => exact Fin.ext (by show b.val % 1 = 0; omega)
    | ⟨1, _⟩ => exact Fin.ext (by show n.val % 128 = n.val; omega)
    | ⟨2, _⟩ => exact Fin.ext (by show d.val % 128 = d.val; omega)
  unfold Value.G9
  rw [dif_pos (by rw [e]; exact lastPt b), hl]
  exact congrArg (fun x => x.1 (ix3 0 n d)) ((Value.fold0_congr m c _ _ _ (by rw [Nat.zero_add]; exact lastPt b) e).trans (Value.outsAt0_sweep m c _ (lastPt b)).symm)

theorem G10_at (b : Fin 8) (n : Fin 32) (d : Fin 128) :
    Value.G10 m c (ix3 b n d) = (outsAt0 m c (lp b).val (lp b).isLt).2.1 (ix3 0 n d) := by
  have e : Value.pt10Of (ix3 b n d) = 4 * b.val + 3 := by
    show 4 * (1 * (b.val / 1 - 0) + 1 * (n.val / 32 - 0) + 1 * (d.val / 128 - 0)) + 3 = _
    omega
  have hl : Value.loc10Of (ix3 b n d) = ix3 0 n d := by
    funext a
    match a with
    | ⟨0, _⟩ => exact Fin.ext (by show b.val % 1 = 0; omega)
    | ⟨1, _⟩ => exact Fin.ext (by show n.val % 32 = n.val; omega)
    | ⟨2, _⟩ => exact Fin.ext (by show d.val % 128 = d.val; omega)
  unfold Value.G10
  rw [dif_pos (by rw [e]; exact lastPt b), hl]
  exact congrArg (fun x => x.2.1 (ix3 0 n d)) ((Value.fold0_congr m c _ _ _ (by rw [Nat.zero_add]; exact lastPt b) e).trans (Value.outsAt0_sweep m c _ (lastPt b)).symm)

theorem G11_at (b : Fin 8) (n : Fin 32) (d : Fin 128) :
    Value.G11 m c (ix3 b n d) = (outsAt0 m c (lp b).val (lp b).isLt).2.2.1 (ix3 0 n d) := by
  have e : Value.pt11Of (ix3 b n d) = 4 * b.val + 3 := by
    show 4 * (1 * (b.val / 1 - 0) + 1 * (n.val / 32 - 0) + 1 * (d.val / 128 - 0)) + 3 = _
    omega
  have hl : Value.loc11Of (ix3 b n d) = ix3 0 n d := by
    funext a
    match a with
    | ⟨0, _⟩ => exact Fin.ext (by show b.val % 1 = 0; omega)
    | ⟨1, _⟩ => exact Fin.ext (by show n.val % 32 = n.val; omega)
    | ⟨2, _⟩ => exact Fin.ext (by show d.val % 128 = d.val; omega)
  unfold Value.G11
  rw [dif_pos (by rw [e]; exact lastPt b), hl]
  exact congrArg (fun x => x.2.2.1 (ix3 0 n d)) ((Value.fold0_congr m c _ _ _ (by rw [Nat.zero_add]; exact lastPt b) e).trans (Value.outsAt0_sweep m c _ (lastPt b)).symm)

theorem lp0 (b : Fin 8) : ¬ (lp b).val % 4 = 0 := by show ¬ (4 * b.val + 3) % 4 = 0; omega
theorem lp3 (b : Fin 8) : (lp b).val % 4 = 3 := by show (4 * b.val + 3) % 4 = 3; omega

/-- The new keys' codes. -/
def nk (b : Fin 8) (h : Fin 32) (d : Fin 128) : EReal :=
  codes (m ((c : Thread nD τ).loc main_arg1) (ix4 b 0 h d)) (m ((c : Thread nD τ).loc main_arg4) (ix1 h))
/-- The new values' codes. -/
def nv (b : Fin 8) (h : Fin 32) (d : Fin 128) : EReal :=
  codes (m ((c : Thread nD τ).loc main_arg2) (ix4 b 0 h d)) (m ((c : Thread nD τ).loc main_arg6) (ix1 h))

theorem k_at (b : Fin 8) (h : Fin 32) (d : Fin 128) : Value.G10 m c (ix3 b h d) = nk m c b h d := by
  rw [G10_at, C_k m c (lp b) (lp0 b) (lp3 b)]
  refine (pay14_at _ _ h d).trans ?_
  unfold nk
  rw [iblk1_at, iblk5_at, bt_lp]

theorem v_at (b : Fin 8) (h : Fin 32) (d : Fin 128) : Value.G11 m c (ix3 b h d) = nv m c b h d := by
  rw [G11_at, C_v m c (lp b) (lp0 b) (lp3 b)]
  refine (pay15_at _ _ h d).trans ?_
  unfold nv
  rw [iblk2_at, iblk6_at, bt_lp]

variable (hk0 : ∀ h, 0 ≤ kscale m c h) (hkt : ∀ h, kscale m c h ≠ ⊤) (hv0 : ∀ h, 0 ≤ vscale m c h) (hvt : ∀ h, vscale m c h ≠ ⊤)

include hk0 hkt hv0 hvt in
theorem y_at (b : Fin 8) (n d : Fin 128) :
    Value.G9 m c (ix3 b n d)
      = attn (bq m c b n) (fun t d => m ((c : Thread nD τ).loc main_arg3) (ix4 b t (hd n) d))
          (fun t d => m ((c : Thread nD τ).loc main_arg5) (ix4 b t (hd n) d)) (nk m c b (hd n)) (nv m c b (hd n))
          (kscale m c (hd n)) (vscale m c (hd n)) d := by
  rw [G9_at, C_y m c (lp b) (lp0 b) (lp3 b)]
  obtain ⟨-, hM, hL, hA⟩ := at_all m c hk0 hkt (lp b).val (lp b).isLt
  have e4 : (⟨(lp b).val, (lp b).isLt⟩ : Fin cfg0.N).val % 4 + 1 = 4 := congrArg (· + 1) (lp3 b)
  rw [e4] at hM hL hA
  have eb : bt ⟨(lp b).val, (lp b).isLt⟩ = b := bt_lp b
  rw [eb] at hM hL hA
  refine (yFin_eq (bq m c b) (bk m c b) (bv m c b) (kscale m c) (vscale m c) (nk m c b) (nv m c b) hv0 hvt _ _ _ hM hL hA
    _ _ _ _ _ _ ?_ ?_ ?_ ?_ ?_ ?_ n d).trans ?_
  · intro n d; exact (iblk0_at m c (lp b) n d).trans (by rw [bt_lp]; rfl)
  · intro h d; rw [iblk1_at, iblk5_at, bt_lp]; rfl
  · intro h d; exact iblk5_at m c (lp b) h d
  · intro h d; rw [iblk2_at, iblk6_at, bt_lp]; rfl
  · intro h d; exact iblk6_at m c (lp b) h d
  · intro n d; exact iblk8_at m c (lp b) n d
  · have ek : ∀ t : Fin 4096, bk m c b t.val (hd n) = fun d => m ((c : Thread nD τ).loc main_arg3) (ix4 b t (hd n) d) := fun t =>
      funext fun d => dif_pos t.isLt
    have ev : ∀ t : Fin 4096, bv m c b t.val (hd n) = fun d => m ((c : Thread nD τ).loc main_arg5) (ix4 b t (hd n) d) := fun t =>
      funext fun d => dif_pos t.isLt
    simp only [ek, ev]

end Cert.KernelIdeal.Attn

namespace Cert.Pre_usable_scales

theorem facts : Facts := ⟨by decide⟩

theorem inf32 : Ideal.ofBits .f32 0x7F800000#32 = ⊤ := by simp [Ideal.ofBits, Ideal.ieee]

/-- One scale array's half of the predicate, at an element. -/
theorem half (x : S32.Idx → EReal) (hb : S_.BroadcastsInDim S32 (![] : Fin 0 → Fin S32.rank)) (h : Fin 32)
    (e : andi (cmpf (F := Ideal) (φ := .f32) .oge x (broadcastInDim S32 ![] hb (constant (F := Ideal) S_ .f32 0x00000000#32)))
      (cmpf (F := Ideal) (φ := .f32) .olt x (broadcastInDim S32 ![] hb (constant (F := Ideal) S_ .f32 0x7F800000#32))) (ix1 h) = 1#1) :
    0 ≤ x (ix1 h) ∧ x (ix1 h) ≠ ⊤ := by
  have e' : Ideal.cmp .oge (x (ix1 h)) (Ideal.ofBits .f32 0x00000000#32) &&& Ideal.cmp .olt (x (ix1 h)) (Ideal.ofBits .f32 0x7F800000#32) = 1#1 := e
  rw [inf32, Cert.KernelIdeal.Attn.zero32] at e'
  by_cases h1 : 0 ≤ x (ix1 h)
  · by_cases h2 : x (ix1 h) < ⊤
    · exact ⟨h1, h2.ne⟩
    · simp [Ideal.cmp, h2] at e'
  · simp [Ideal.cmp, h1] at e'

end Cert.Pre_usable_scales
-- ==== Proof.Ref.lean ====
/-
  The reference's results, read at an index: the quantiser's codes, and each row's attention (Spec.lean).
-/
module

public import proofs.«01_k».proof.Proof.Spec
public import proofs.«01_k».proof.Proof.Gen.ReferenceIdeal.Run
public import Idealize.ShloMosaic.Lib.Pipeline.ValueKit
public import Idealize.ShloMosaic.Lib.UnfoldOut
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attn

open Cert.ReferenceIdeal Cert.ReferenceIdeal.Gen Cert.ReferenceIdeal.Value Cert.Attn

variable (m : (ℓ : Loc nD τ sig) → Buf (Elt Ideal) ℓ) (c : Dev nD)

/-- Every window's block is its whole array at the one point (decided). -/
theorem idx : ∀ t : Fin cfg0.N, win0_0.index t = ![0, 0, 0, 0] ∧ win0_1.index t = ![0, 0, 0, 0] ∧ win0_2.index t = ![0, 0, 0] ∧ win0_3.index t = ![0, 0, 0] ∧ win0_4.index t = ![0, 0, 0] ∧ win0_5.index t = ![0, 0, 0] :=
  (by decide +kernel : ∀ t : Fin grid0.N, _)

theorem iblk0 : iblk m c 0 t0_0 = m ((c : Thread nD τ).loc main_arg3) := by
  rw [← V_main_arg3 m c]; blk_ext! [iblk, idx t0_0]

theorem iblk1 : iblk m c 1 t0_0 = m ((c : Thread nD τ).loc main_arg5) := by
  rw [← V_main_arg5 m c]; blk_ext! [iblk, idx t0_0]

theorem reg0 : reg_main_v6_0 m c = m ((c : Thread nD τ).loc main_arg3) := by
  unfold reg_main_v6_0
  refine (Gen.dats m 0 c).arrAt_eq_of_after_last 6 t0_0 (by decide +kernel) _ fun j => ?_
  blk_simp
  rw [after0_6, iblk0, iblk1]
  frame_out
  unfold_payloads
  pointwise

theorem reg1 : reg_main_v6_1 m c = m ((c : Thread nD τ).loc main_arg5) := by
  unfold reg_main_v6_1
  refine (Gen.dats m 0 c).arrAt_eq_of_after_last 7 t0_0 (by decide +kernel) _ fun j => ?_
  blk_simp
  rw [after0_7, iblk0, iblk1]
  frame_out
  unfold_payloads
  pointwise

theorem reshape_at (x : S8x1x32x128.Idx → EReal) (b : Fin 8) (h : Fin 32) (d : Fin 128) :
    shapeCast S8x32x128 x shapeCasts_S8x1x32x128_S8x32x128 (ix3 b h d) = x (ix4 b 0 h d) := by
  pointwise

/-- The new keys as the region reads them. -/
theorem iblk2 (j : S8x32x128.Idx) :
    iblk m c 2 t0_0 j = m ((c : Thread nD τ).loc main_arg1) (ix4 (j 0) 0 (j 1) (j 2)) := by
  have h : V m c main_v0 = shapeCast S8x32x128 (m ((c : Thread nD τ).loc main_arg1)) shapeCasts_S8x1x32x128_S8x32x128 := by
    show StableHlo.after _ _ _ = _
    simp only [List.flatten_cons, List.flatten_nil, List.append_nil, hostOps0]
    after_results_simp
    try rfl
  have h2 : iblk m c 2 t0_0 = V m c main_v0 := by blk_ext! [iblk, idx t0_0]
  rw [h2, h]
  obtain ⟨b, h, d, rfl⟩ : ∃ b h d, j = ix3 b h d := ⟨_, _, _, eq_ix3 j⟩
  exact reshape_at _ b h d

/-- The new values as the region reads them. -/
theorem iblk3 (j : S8x32x128.Idx) :
    iblk m c 3 t0_0 j = m ((c : Thread nD τ).loc main_arg2) (ix4 (j 0) 0 (j 1) (j 2)) := by
  have h : V m c main_v1 = shapeCast S8x32x128 (m ((c : Thread nD τ).loc main_arg2)) shapeCasts_S8x1x32x128_S8x32x128 := by
    show StableHlo.after _ _ _ = _
    simp only [List.flatten_cons, List.flatten_nil, List.append_nil, hostOps0]
    after_results_simp
    try rfl
  have h2 : iblk m c 3 t0_0 = V m c main_v1 := by blk_ext! [iblk, idx t0_0]
  rw [h2, h]
  obtain ⟨b, h, d, rfl⟩ : ∃ b h d, j = ix3 b h d := ⟨_, _, _, eq_ix3 j⟩
  exact reshape_at _ b h d

/-- The keys' scales as the region reads them. -/
theorem iblk4 (j : S8x32x128.Idx) :
    iblk m c 4 t0_0 j = m ((c : Thread nD τ).loc main_arg4) (ix1 (j 1)) := by
  have h : V m c main_v3 = broadcastInDim S8x32x128 ![0, 1, 2] bcast_S1x32x1_S8x32x128_0_1_2 (broadcastInDim S1x32x1 ![1] bcast_S32_S1x32x1_1 (m ((c : Thread nD τ).loc main_arg4))) := by
    show StableHlo.after _ _ _ = _
    simp only [List.flatten_cons, List.flatten_nil, List.append_nil, hostOps0]
    after_results_simp
    try rfl
  have h2 : iblk m c 4 t0_0 = V m c main_v3 := by blk_ext! [iblk, idx t0_0]
  rw [h2, h]
  obtain ⟨b, h, d, rfl⟩ : ∃ b h d, j = ix3 b h d := ⟨_, _, _, eq_ix3 j⟩
  pointwise

/-- The values' scales as the region reads them. -/
theorem iblk5 (j : S8x32x128.Idx) :
    iblk m c 5 t0_0 j = m ((c : Thread nD τ).loc main_arg6) (ix1 (j 1)) := by
  have h : V m c main_v5 = broadcastInDim S8x32x128 ![0, 1, 2] bcast_S1x32x1_S8x32x128_0_1_2 (broadcastInDim S1x32x1 ![1] bcast_S32_S1x32x1_1 (m ((c : Thread nD τ).loc main_arg6))) := by
    show StableHlo.after _ _ _ = _
    simp only [List.flatten_cons, List.flatten_nil, List.append_nil, hostOps0]
    after_results_simp
    try rfl
  have h2 : iblk m c 5 t0_0 = V m c main_v5 := by blk_ext! [iblk, idx t0_0]
  rw [h2, h]
  obtain ⟨b, h, d, rfl⟩ : ∃ b h d, j = ix3 b h d := ⟨_, _, _, eq_ix3 j⟩
  pointwise

/-- The new keys' codes. -/
def kcodes (b : Fin 8) (h : Fin 32) (d : Fin 128) : EReal :=
  codes (m ((c : Thread nD τ).loc main_arg1) (ix4 b 0 h d)) (m ((c : Thread nD τ).loc main_arg4) (ix1 h))

/-- The new values' codes. -/
def vcodes (b : Fin 8) (h : Fin 32) (d : Fin 128) : EReal :=
  codes (m ((c : Thread nD τ).loc main_arg2) (ix4 b 0 h d)) (m ((c : Thread nD τ).loc main_arg6) (ix1 h))

theorem reg2 : reg_main_v6_2 m c = fun j => kcodes m c (j 0) (j 1) (j 2) := by
  unfold reg_main_v6_2
  refine (Gen.dats m 0 c).arrAt_eq_of_after_last 8 t0_0 (by decide +kernel) _ fun j => ?_
  blk_simp
  rw [after0_8]
  frame_out
  unfold_payloads
  pointwise
  exact congrArg₂ codes (iblk2 m c j) (iblk4 m c j)

theorem reg3 : reg_main_v6_3 m c = fun j => vcodes m c (j 0) (j 1) (j 2) := by
  unfold reg_main_v6_3
  refine (Gen.dats m 0 c).arrAt_eq_of_after_last 9 t0_0 (by decide +kernel) _ fun j => ?_
  blk_simp
  rw [after0_9]
  frame_out
  unfold_payloads
  pointwise
  exact congrArg₂ codes (iblk3 m c j) (iblk5 m c j)

theorem reg4 : reg_main_v6_4 m c = fun j => kcodes m c (j 0) (j 1) (j 2) := by
  unfold reg_main_v6_4
  refine (Gen.dats m 0 c).arrAt_eq_of_after_last 10 t0_0 (by decide +kernel) _ fun j => ?_
  blk_simp
  rw [after0_10]
  frame_out
  unfold_payloads
  pointwise
  exact congrArg₂ codes (iblk2 m c j) (iblk4 m c j)

theorem reg5 : reg_main_v6_5 m c = fun j => vcodes m c (j 0) (j 1) (j 2) := by
  unfold reg_main_v6_5
  refine (Gen.dats m 0 c).arrAt_eq_of_after_last 11 t0_0 (by decide +kernel) _ fun j => ?_
  blk_simp
  rw [after0_11]
  frame_out
  unfold_payloads
  pointwise
  exact congrArg₂ codes (iblk3 m c j) (iblk5 m c j)

/-- The query of head `4 h + g`. -/
def qry (b : Fin 8) (h : Fin 32) (g : Fin 4) (d : Fin 128) : EReal :=
  m ((c : Thread nD τ).loc main_arg0) (ix3 b 0 ⟨h.val * 512 + g.val * 128 + d.val, by omega⟩)

theorem q_at (b : Fin 8) (h : Fin 32) (g : Fin 4) (d : Fin 128) : res_main_v23 (exitV m c) (ix4 b h g d) = qry m c b h g d := by
  unfold res_main_v23
  rw [exit_main_arg0]
  pointwise
  rfl

/-- The scores against the cache. -/
def sc (b : Fin 8) (h : Fin 32) (g : Fin 4) (t : Fin 4096) : EReal :=
  score (qry m c b h g) (fun d => m ((c : Thread nD τ).loc main_arg3) (ix4 b t h d)) (m ((c : Thread nD τ).loc main_arg4) (ix1 h))

/-- The score against the new key. -/
def sc1 (b : Fin 8) (h : Fin 32) (g : Fin 4) : EReal :=
  score (qry m c b h g) (kcodes m c b h) (m ((c : Thread nD τ).loc main_arg4) (ix1 h))

theorem sc_at (b : Fin 8) (h : Fin 32) (g : Fin 4) (t : Fin 4096) : res_main_v26 (exitV m c) (ix4 b h g t) = sc m c b h g t := by
  unfold res_main_v26 res_main_v8
  pointwise
  rw [exit_main_v6_0, reg0, exit_main_arg4]
  simp only [q_at]
  rfl

theorem sc1_at (b : Fin 8) (h : Fin 32) (g : Fin 4) : res_main_v36 (exitV m c) (ix3 b h g) = sc1 m c b h g := by
  unfold res_main_v36 res_main_v8
  pointwise
  rw [exit_main_v6_4, reg4, exit_main_arg4]
  simp only [q_at]
  rfl

end Cert.ReferenceIdeal.Attn
-- ==== Proof.RefOut.lean ====
/-
  The reference's softmax and its attention result, read at an index.
-/
module

public import proofs.«01_k».proof.Proof.Ref
public import proofs.«01_k».proof.Proof.Gen.ReferenceIdeal.Run
public import Idealize.ShloMosaic.Lib.Pipeline.ValueKit
public import Idealize.ShloMosaic.Lib.UnfoldOut
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attn

open Cert.ReferenceIdeal Cert.ReferenceIdeal.Gen Cert.ReferenceIdeal.Value Cert.Attn

variable (m : (ℓ : Loc nD τ sig) → Buf (Elt Ideal) ℓ) (c : Dev nD)

theorem reduces3 : S8x32x4x4096.Reduces [3] S8x32x4 := by decide

theorem lift3 (b : Fin 8) (h : Fin 32) (g : Fin 4) (t : Fin 4096) : reduces3.lift (ix3 b h g) t = ix4 b h g t := by
  funext a
  apply Fin.ext
  match a with
  | ⟨0, _⟩ => rfl
  | ⟨1, _⟩ => rfl
  | ⟨2, _⟩ => rfl
  | ⟨3, _⟩ => rfl

theorem negInf : Ideal.ofBits .f32 0xFF800000#32 = ⊥ := by simp [Ideal.ofBits, Ideal.ieee]

theorem max_at (x : FVec Ideal S8x32x4x4096 .f32) (b : Fin 8) (h : Fin 32) (g : Fin 4) :
    Host.reduce FloatOps.maximumf x (constant S_ .f32 0xFF800000#32) reducesTo_S8x32x4x4096_S8x32x4_d3 h_S_ (ix3 b h g)
      = Finset.univ.sup fun t : Fin 4096 => (x (ix4 b h g t) : EReal) := by
  rw [Host.reduce_eq_fold_single _ _ _ _ reduces3]
  have : (x ∘ reduces3.lift (ix3 b h g)) = fun t : Fin 4096 => x (ix4 b h g t) :=
    funext fun t => congrArg x (lift3 b h g t)
  rw [this]
  have e : constant (F := Ideal) S_ .f32 0xFF800000#32 (Shape.Idx.first h_S_) = (⊥ : EReal) := negInf
  rw [e]
  rfl

theorem top_at (b : Fin 8) (h : Fin 32) (g : Fin 4) : res_main_v38 (exitV m c) (ix3 b h g) = top (sc m c b h g) (sc1 m c b h g) := by
  unfold res_main_v38
  rw [maximumf_apply, sc1_at, max_at]
  simp only [sc_at]
  rfl

theorem p_at (b : Fin 8) (h : Fin 32) (g : Fin 4) (t : Fin 4096) : res_main_v42 (exitV m c) (ix4 b h g t) = Ideal.exp (sc m c b h g t - top (sc m c b h g) (sc1 m c b h g)) := by
  unfold res_main_v42
  pointwise
  rw [sc_at, top_at]

theorem p1_at (b : Fin 8) (h : Fin 32) (g : Fin 4) : res_main_v44 (exitV m c) (ix3 b h g) = Ideal.exp (sc1 m c b h g - top (sc m c b h g) (sc1 m c b h g)) := by
  unfold res_main_v44
  pointwise
  rw [sc1_at, top_at]

/-- What the attention of query head `n` is shown to be. -/
def out (b : Fin 8) (n : Fin 128) (d : Fin 128) : EReal :=
  attn (qry m c b ⟨n.val / 4, by omega⟩ ⟨n.val % 4, by omega⟩)
    (fun t d => m ((c : Thread nD τ).loc main_arg3) (ix4 b t ⟨n.val / 4, by omega⟩ d))
    (fun t d => m ((c : Thread nD τ).loc main_arg5) (ix4 b t ⟨n.val / 4, by omega⟩ d))
    (kcodes m c b ⟨n.val / 4, by omega⟩) (vcodes m c b ⟨n.val / 4, by omega⟩)
    (m ((c : Thread nD τ).loc main_arg4) (ix1 ⟨n.val / 4, by omega⟩))
    (m ((c : Thread nD τ).loc main_arg6) (ix1 ⟨n.val / 4, by omega⟩)) d

set_option maxHeartbeats 1000000 in
theorem res_at (b : Fin 8) (n : Fin 128) (d : Fin 128) :
    Pipeline.afterTail₀ cfgs (Gen.dats m) 0 (Gen.V0 m) [Gen.hostOps1, Gen.hostOps1_1, Gen.hostOps1_2] c main_v62 (ix3 b n d)
      = out m c b n d := by
  rw [fin_main_v62]
  unfold res_main_v10
  pointwise
  rw [exit_main_v6_1, reg1, exit_main_v6_5, reg5, exit_main_arg6]
  simp only [p_at, p1_at]
  rfl

end Cert.ReferenceIdeal.Attn
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Run
public import proofs.«01_k».proof.Proof.Final
public import proofs.«01_k».proof.Proof.RefOut
public import Idealize.ShloMosaic.Adequacy
public import Idealize.ShloMosaic.Init

@[expose] public section

noncomputable section

namespace Cert.Proof

open Idealize.ShloMosaic Idealize.SL.Sem Cert.Kernel

section

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
  (c : Dev Cert.KernelIdeal.nD)

/-- The new keys' codes are the reference's. -/
theorem k_eq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.reg_main_v6_2 m' c = Cert.KernelIdeal.Value.G10 m c := by
  rw [Cert.ReferenceIdeal.Attn.reg2]
  funext j
  obtain ⟨b, h, d, rfl⟩ : ∃ b h d, j = ix3 b h d := ⟨_, _, _, eq_ix3 j⟩
  refine Eq.trans ?_ (Cert.KernelIdeal.Attn.k_at m c b h d).symm
  show Cert.ReferenceIdeal.Attn.kcodes m' c b h d = _
  unfold Cert.ReferenceIdeal.Attn.kcodes Cert.KernelIdeal.Attn.nk
  rw [h1, h4]

/-- The new values' codes are the reference's. -/
theorem v_eq (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.reg_main_v6_3 m' c = Cert.KernelIdeal.Value.G11 m c := by
  rw [Cert.ReferenceIdeal.Attn.reg3]
  funext j
  obtain ⟨b, h, d, rfl⟩ : ∃ b h d, j = ix3 b h d := ⟨_, _, _, eq_ix3 j⟩
  refine Eq.trans ?_ (Cert.KernelIdeal.Attn.v_at m c b h d).symm
  show Cert.ReferenceIdeal.Attn.vcodes m' c b h d = _
  unfold Cert.ReferenceIdeal.Attn.vcodes Cert.KernelIdeal.Attn.nv
  rw [h2, h6]

/-- The attention rows are the reference's. -/
theorem y_eq (hk0 : ∀ h, 0 ≤ Cert.KernelIdeal.Attn.kscale m c h) (hkt : ∀ h, Cert.KernelIdeal.Attn.kscale m c h ≠ ⊤)
    (hv0 : ∀ h, 0 ≤ Cert.KernelIdeal.Attn.vscale m c h) (hvt : ∀ h, Cert.KernelIdeal.Attn.vscale m c h ≠ ⊤)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Pipeline.afterTail₀ Cert.ReferenceIdeal.cfgs (Cert.ReferenceIdeal.Gen.dats m') 0 (Cert.ReferenceIdeal.Gen.V0 m') [Cert.ReferenceIdeal.Gen.hostOps1, Cert.ReferenceIdeal.Gen.hostOps1_1, Cert.ReferenceIdeal.Gen.hostOps1_2] c Cert.ReferenceIdeal.main_v62
      = Cert.KernelIdeal.Value.G9 m c := by
  funext j
  obtain ⟨b, n, d, rfl⟩ : ∃ b n d, j = ix3 b n d := ⟨_, _, _, eq_ix3 j⟩
  refine (Cert.ReferenceIdeal.Attn.res_at m' c b n d).trans (Eq.trans ?_ (Cert.KernelIdeal.Attn.y_at m c hk0 hkt hv0 hvt b n d).symm)
  have hq : Cert.ReferenceIdeal.Attn.qry m' c b ⟨n.val / 4, by omega⟩ ⟨n.val % 4, by omega⟩ = Cert.KernelIdeal.Attn.bq m c b n := by
    funext d
    unfold Cert.ReferenceIdeal.Attn.qry Cert.KernelIdeal.Attn.bq
    rw [h0]
    refine congrArg (m ((c.tc : Thread Cert.KernelIdeal.nD Cert.KernelIdeal.τ).loc Cert.KernelIdeal.main_arg0)) (congrArg (ix3 b 0) (Fin.ext ?_))
    show n.val / 4 * 512 + n.val % 4 * 128 + d.val = n.val * 128 + d.val
    omega
  have hk : Cert.ReferenceIdeal.Attn.kcodes m' c b ⟨n.val / 4, by omega⟩ = Cert.KernelIdeal.Attn.nk m c b (Cert.KernelIdeal.Attn.hd n) := by
    funext d
    unfold Cert.ReferenceIdeal.Attn.kcodes Cert.KernelIdeal.Attn.nk
    rw [h1, h4]
  have hv : Cert.ReferenceIdeal.Attn.vcodes m' c b ⟨n.val / 4, by omega⟩ = Cert.KernelIdeal.Attn.nv m c b (Cert.KernelIdeal.Attn.hd n) := by
    funext d
    unfold Cert.ReferenceIdeal.Attn.vcodes Cert.KernelIdeal.Attn.nv
    rw [h2, h6]
  unfold Cert.ReferenceIdeal.Attn.out
  rw [hq, hk, hv, h3, h4, h5, h6]
  rfl

end

/-- The two programs' results agree on arguments whose scales are usable. -/
theorem algebraic :
    @Cert.algebraic_KernelIdeal_ReferenceIdeal_pre_usable_scales Cert.KernelIdeal.Gen.facts Cert.ReferenceIdeal.Gen.facts
      Cert.Pre_usable_scales.facts := by
  intro m g m' g' hpre hargs
  refine ⟨Cert.KernelIdeal.Value.G9 m, Cert.KernelIdeal.Value.G10 m, fun c => m ((c.tc : Thread Cert.KernelIdeal.nD Cert.KernelIdeal.τ).loc Cert.KernelIdeal.main_arg4), Cert.KernelIdeal.Value.G11 m, fun c => m ((c.tc : Thread Cert.KernelIdeal.nD Cert.KernelIdeal.τ).loc Cert.KernelIdeal.main_arg6), ?_, ?_⟩
  · refine (θ_run _ _ _).mono (fun r h c => ?_) (Cert.KernelIdeal.Value.run m g)
    obtain ⟨a0, a1, a2, b0, b1, b2, b3, b4, b5, b6⟩ := h c
    exact ⟨a0, a1, b4, a2, b6, b0, b1, b2, b3, b4, b5, b6⟩
  · refine (θ_run _ _ _).mono (fun r h c => ?_) (Cert.ReferenceIdeal.Value.run m' g')
    obtain ⟨a0, a1, a2, a3, a4, b0, b1, b2, b3, b4, b5, b6⟩ := h c
    obtain ⟨h0, h1, h2, h3, h4, h5, h6⟩ := hargs c
    obtain ⟨pk, pv⟩ := hpre c
    have hk := fun x => Cert.Pre_usable_scales.half (m ((c.tc : Thread Cert.KernelIdeal.nD Cert.KernelIdeal.τ).loc Cert.KernelIdeal.main_arg4)) Cert.Pre_usable_scales.facts.bcast_S_S32 x (congrFun pk (ix1 x))
    have hv := fun x => Cert.Pre_usable_scales.half (m ((c.tc : Thread Cert.KernelIdeal.nD Cert.KernelIdeal.τ).loc Cert.KernelIdeal.main_arg6)) Cert.Pre_usable_scales.facts.bcast_S_S32 x (congrFun pv (ix1 x))
    exact ⟨a0.trans ((Cert.ReferenceIdeal.Value.fin_main_v62 m' c).symm.trans
        (y_eq m m' c (fun x => (hk x).1) (fun x => (hk x).2) (fun x => (hv x).1) (fun x => (hv x).2) h0 h1 h2 h3 h4 h5 h6)),
      a1.trans (k_eq m m' c h1 h4), a2.trans h4, a3.trans (v_eq m m' c h2 h6), a4.trans h6, b0, b1, b2, b3, b4, b5, b6⟩

theorem claim : Cert.Claim :=
  ⟨Cert.Kernel.Gen.facts, Cert.KernelIdeal.Gen.facts, Cert.ReferenceIdeal.Gen.facts, Cert.Pre_usable_scales.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial, algebraic⟩

end Cert.Proof

end
